-- ==== Defs.lean ====
def Pre_OddInproj (m : (ℓ : Loc Cert.OddInproj.nD Cert.OddInproj.τ Cert.OddInproj.sig) → Buf (Elt Bits) ℓ) : Prop :=
  True

def Pre_OddInprojIdeal (m : (ℓ : Loc Cert.OddInprojIdeal.nD Cert.OddInprojIdeal.τ Cert.OddInprojIdeal.sig) → Buf (Elt Ideal) ℓ) : Prop :=
  True

def Pre_OddInprojRefIdeal (m : (ℓ : Loc Cert.OddInprojRefIdeal.nD Cert.OddInprojRefIdeal.τ Cert.OddInprojRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_EvenInproj (m : (ℓ : Loc Cert.EvenInproj.nD Cert.EvenInproj.τ Cert.EvenInproj.sig) → Buf (Elt Bits) ℓ) : Prop :=
  True

def Pre_EvenInprojIdeal (m : (ℓ : Loc Cert.EvenInprojIdeal.nD Cert.EvenInprojIdeal.τ Cert.EvenInprojIdeal.sig) → Buf (Elt Ideal) ℓ) : Prop :=
  True

def Pre_EvenInprojRefIdeal (m : (ℓ : Loc Cert.EvenInprojRefIdeal.nD Cert.EvenInprojRefIdeal.τ Cert.EvenInprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_S5Disc (m : (ℓ : Loc Cert.S5Disc.nD Cert.S5Disc.τ Cert.S5Disc.sig) → Buf (Elt Bits) ℓ) : Prop :=
  True

def Pre_S5DiscIdeal (m : (ℓ : Loc Cert.S5DiscIdeal.nD Cert.S5DiscIdeal.τ Cert.S5DiscIdeal.sig) → Buf (Elt Ideal) ℓ) : Prop :=
  True

def Pre_S5DiscRefIdeal (m : (ℓ : Loc Cert.S5DiscRefIdeal.nD Cert.S5DiscRefIdeal.τ Cert.S5DiscRefIdeal.sig) → Buf (Elt Ideal) ℓ) : Prop :=
  True

def quiescent_OddInproj [hOddInproj : Cert.OddInproj.Facts] : Prop :=
  ∀ (m : (ℓ : Loc Cert.OddInproj.nD Cert.OddInproj.τ Cert.OddInproj.sig) → Buf (Elt Bits) ℓ) (g : Dev Cert.OddInproj.nD → PrngReg), Pre_OddInproj m →
    θ_run (Cert.OddInproj.defs (F := Bits)) (onTc (τ := Cert.OddInproj.τ) (Cert.OddInproj.main (F := Bits))) ⟨m, fun _ => 0, g⟩ (fun r => (∀ c : Dev Cert.OddInproj.nD,
      r.2.mem ((c.tc : Thread Cert.OddInproj.nD Cert.OddInproj.τ).loc Cert.OddInproj.main_arg0) = m ((c.tc : Thread Cert.OddInproj.nD Cert.OddInproj.τ).loc Cert.OddInproj.main_arg0)
      ∧ r.2.mem ((c.tc : Thread Cert.OddInproj.nD Cert.OddInproj.τ).loc Cert.OddInproj.main_arg1) = m ((c.tc : Thread Cert.OddInproj.nD Cert.OddInproj.τ).loc Cert.OddInproj.main_arg1)
      ∧ r.2.mem ((c.tc : Thread Cert.OddInproj.nD Cert.OddInproj.τ).loc Cert.OddInproj.main_arg2) = m ((c.tc : Thread Cert.OddInproj.nD Cert.OddInproj.τ).loc Cert.OddInproj.main_arg2))
      ∧ r.2.sem = fun _ => 0)

def quiescent_OddInprojIdeal [hOddInprojIdeal : Cert.OddInprojIdeal.Facts] : Prop :=
  ∀ (m : (ℓ : Loc Cert.OddInprojIdeal.nD Cert.OddInprojIdeal.τ Cert.OddInprojIdeal.sig) → Buf (Elt Ideal) ℓ) (g : Dev Cert.OddInprojIdeal.nD → PrngReg), Pre_OddInprojIdeal m →
    θ_run (Cert.OddInprojIdeal.defs (F := Ideal)) (onTc (τ := Cert.OddInprojIdeal.τ) (Cert.OddInprojIdeal.main (F := Ideal))) ⟨m, fun _ => 0, g⟩ (fun r => (∀ c : Dev Cert.OddInprojIdeal.nD,
      r.2.mem ((c.tc : Thread Cert.OddInprojIdeal.nD Cert.OddInprojIdeal.τ).loc Cert.OddInprojIdeal.main_arg0) = m ((c.tc : Thread Cert.OddInprojIdeal.nD Cert.OddInprojIdeal.τ).loc Cert.OddInprojIdeal.main_arg0)
      ∧ r.2.mem ((c.tc : Thread Cert.OddInprojIdeal.nD Cert.OddInprojIdeal.τ).loc Cert.OddInprojIdeal.main_arg1) = m ((c.tc : Thread Cert.OddInprojIdeal.nD Cert.OddInprojIdeal.τ).loc Cert.OddInprojIdeal.main_arg1)
      ∧ r.2.mem ((c.tc : Thread Cert.OddInprojIdeal.nD Cert.OddInprojIdeal.τ).loc Cert.OddInprojIdeal.main_arg2) = m ((c.tc : Thread Cert.OddInprojIdeal.nD Cert.OddInprojIdeal.τ).loc Cert.OddInprojIdeal.main_arg2))
      ∧ r.2.sem = fun _ => 0)

def quiescent_OddInprojRefIdeal [hOddInprojRefIdeal : Cert.OddInprojRefIdeal.Facts] : Prop :=
  ∀ (m : (ℓ : Loc Cert.OddInprojRefIdeal.nD Cert.OddInprojRefIdeal.τ Cert.OddInprojRefIdeal.sig) → Buf (Elt Ideal) ℓ) (g : Dev Cert.OddInprojRefIdeal.nD → PrngReg), Pre_OddInprojRefIdeal m →
    θ_run (Cert.OddInprojRefIdeal.defs (F := Ideal)) (onTc (τ := Cert.OddInprojRefIdeal.τ) (Cert.OddInprojRefIdeal.main (F := Ideal))) ⟨m, fun _ => 0, g⟩ (fun r => (∀ c : Dev Cert.OddInprojRefIdeal.nD,
      r.2.mem ((c.tc : Thread Cert.OddInprojRefIdeal.nD Cert.OddInprojRefIdeal.τ).loc Cert.OddInprojRefIdeal.main_arg0) = m ((c.tc : Thread Cert.OddInprojRefIdeal.nD Cert.OddInprojRefIdeal.τ).loc Cert.OddInprojRefIdeal.main_arg0)
      ∧ r.2.mem ((c.tc : Thread Cert.OddInprojRefIdeal.nD Cert.OddInprojRefIdeal.τ).loc Cert.OddInprojRefIdeal.main_arg1) = m ((c.tc : Thread Cert.OddInprojRefIdeal.nD Cert.OddInprojRefIdeal.τ).loc Cert.OddInprojRefIdeal.main_arg1)
      ∧ r.2.mem ((c.tc : Thread Cert.OddInprojRefIdeal.nD Cert.OddInprojRefIdeal.τ).loc Cert.OddInprojRefIdeal.main_arg2) = m ((c.tc : Thread Cert.OddInprojRefIdeal.nD Cert.OddInprojRefIdeal.τ).loc Cert.OddInprojRefIdeal.main_arg2))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_EvenInproj [hEvenInproj : Cert.EvenInproj.Facts] : Prop :=
  ∀ (m : (ℓ : Loc Cert.EvenInproj.nD Cert.EvenInproj.τ Cert.EvenInproj.sig) → Buf (Elt Bits) ℓ) (g : Dev Cert.EvenInproj.nD → PrngReg), Pre_EvenInproj m →
    θ_run (Cert.EvenInproj.defs (F := Bits)) (onTc (τ := Cert.EvenInproj.τ) (Cert.EvenInproj.main (F := Bits))) ⟨m, fun _ => 0, g⟩ (fun r => (∀ c : Dev Cert.EvenInproj.nD,
      r.2.mem ((c.tc : Thread Cert.EvenInproj.nD Cert.EvenInproj.τ).loc Cert.EvenInproj.main_arg0) = m ((c.tc : Thread Cert.EvenInproj.nD Cert.EvenInproj.τ).loc Cert.EvenInproj.main_arg0)
      ∧ r.2.mem ((c.tc : Thread Cert.EvenInproj.nD Cert.EvenInproj.τ).loc Cert.EvenInproj.main_arg1) = m ((c.tc : Thread Cert.EvenInproj.nD Cert.EvenInproj.τ).loc Cert.EvenInproj.main_arg1)
      ∧ r.2.mem ((c.tc : Thread Cert.EvenInproj.nD Cert.EvenInproj.τ).loc Cert.EvenInproj.main_arg2) = m ((c.tc : Thread Cert.EvenInproj.nD Cert.EvenInproj.τ).loc Cert.EvenInproj.main_arg2))
      ∧ r.2.sem = fun _ => 0)

def quiescent_EvenInprojIdeal [hEvenInprojIdeal : Cert.EvenInprojIdeal.Facts] : Prop :=
  ∀ (m : (ℓ : Loc Cert.EvenInprojIdeal.nD Cert.EvenInprojIdeal.τ Cert.EvenInprojIdeal.sig) → Buf (Elt Ideal) ℓ) (g : Dev Cert.EvenInprojIdeal.nD → PrngReg), Pre_EvenInprojIdeal m →
    θ_run (Cert.EvenInprojIdeal.defs (F := Ideal)) (onTc (τ := Cert.EvenInprojIdeal.τ) (Cert.EvenInprojIdeal.main (F := Ideal))) ⟨m, fun _ => 0, g⟩ (fun r => (∀ c : Dev Cert.EvenInprojIdeal.nD,
      r.2.mem ((c.tc : Thread Cert.EvenInprojIdeal.nD Cert.EvenInprojIdeal.τ).loc Cert.EvenInprojIdeal.main_arg0) = m ((c.tc : Thread Cert.EvenInprojIdeal.nD Cert.EvenInprojIdeal.τ).loc Cert.EvenInprojIdeal.main_arg0)
      ∧ r.2.mem ((c.tc : Thread Cert.EvenInprojIdeal.nD Cert.EvenInprojIdeal.τ).loc Cert.EvenInprojIdeal.main_arg1) = m ((c.tc : Thread Cert.EvenInprojIdeal.nD Cert.EvenInprojIdeal.τ).loc Cert.EvenInprojIdeal.main_arg1)
      ∧ r.2.mem ((c.tc : Thread Cert.EvenInprojIdeal.nD Cert.EvenInprojIdeal.τ).loc Cert.EvenInprojIdeal.main_arg2) = m ((c.tc : Thread Cert.EvenInprojIdeal.nD Cert.EvenInprojIdeal.τ).loc Cert.EvenInprojIdeal.main_arg2))
      ∧ r.2.sem = fun _ => 0)

def quiescent_EvenInprojRefIdeal [hEvenInprojRefIdeal : Cert.EvenInprojRefIdeal.Facts] : Prop :=
  ∀ (m : (ℓ : Loc Cert.EvenInprojRefIdeal.nD Cert.EvenInprojRefIdeal.τ Cert.EvenInprojRefIdeal.sig) → Buf (Elt Ideal) ℓ) (g : Dev Cert.EvenInprojRefIdeal.nD → PrngReg), Pre_EvenInprojRefIdeal m →
    θ_run (Cert.EvenInprojRefIdeal.defs (F := Ideal)) (onTc (τ := Cert.EvenInprojRefIdeal.τ) (Cert.EvenInprojRefIdeal.main (F := Ideal))) ⟨m, fun _ => 0, g⟩ (fun r => (∀ c : Dev Cert.EvenInprojRefIdeal.nD,
      r.2.mem ((c.tc : Thread Cert.EvenInprojRefIdeal.nD Cert.EvenInprojRefIdeal.τ).loc Cert.EvenInprojRefIdeal.main_arg0) = m ((c.tc : Thread Cert.EvenInprojRefIdeal.nD Cert.EvenInprojRefIdeal.τ).loc Cert.EvenInprojRefIdeal.main_arg0)
      ∧ r.2.mem ((c.tc : Thread Cert.EvenInprojRefIdeal.nD Cert.EvenInprojRefIdeal.τ).loc Cert.EvenInprojRefIdeal.main_arg1) = m ((c.tc : Thread Cert.EvenInprojRefIdeal.nD Cert.EvenInprojRefIdeal.τ).loc Cert.EvenInprojRefIdeal.main_arg1)
      ∧ r.2.mem ((c.tc : Thread Cert.EvenInprojRefIdeal.nD Cert.EvenInprojRefIdeal.τ).loc Cert.EvenInprojRefIdeal.main_arg2) = m ((c.tc : Thread Cert.EvenInprojRefIdeal.nD Cert.EvenInprojRefIdeal.τ).loc Cert.EvenInprojRefIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
      ∧ r.2.sem = fun _ => 0)

def quiescent_S5Disc [hS5Disc : Cert.S5Disc.Facts] : Prop :=
  ∀ (m : (ℓ : Loc Cert.S5Disc.nD Cert.S5Disc.τ Cert.S5Disc.sig) → Buf (Elt Bits) ℓ) (g : Dev Cert.S5Disc.nD → PrngReg), Pre_S5Disc m →
    θ_run (Cert.S5Disc.defs (F := Bits)) (onTc (τ := Cert.S5Disc.τ) (Cert.S5Disc.main (F := Bits))) ⟨m, fun _ => 0, g⟩ (fun r => (∀ c : Dev Cert.S5Disc.nD,
      r.2.mem ((c.tc : Thread Cert.S5Disc.nD Cert.S5Disc.τ).loc Cert.S5Disc.main_arg0) = m ((c.tc : Thread Cert.S5Disc.nD Cert.S5Disc.τ).loc Cert.S5Disc.main_arg0)
      ∧ r.2.mem ((c.tc : Thread Cert.S5Disc.nD Cert.S5Disc.τ).loc Cert.S5Disc.main_arg1) = m ((c.tc : Thread Cert.S5Disc.nD Cert.S5Disc.τ).loc Cert.S5Disc.main_arg1)
      ∧ r.2.mem ((c.tc : Thread Cert.S5Disc.nD Cert.S5Disc.τ).loc Cert.S5Disc.main_arg2) = m ((c.tc : Thread Cert.S5Disc.nD Cert.S5Disc.τ).loc Cert.S5Disc.main_arg2)
      ∧ r.2.mem ((c.tc : Thread Cert.S5Disc.nD Cert.S5Disc.τ).loc Cert.S5Disc.main_arg3) = m ((c.tc : Thread Cert.S5Disc.nD Cert.S5Disc.τ).loc Cert.S5Disc.main_arg3)
      ∧ r.2.mem ((c.tc : Thread Cert.S5Disc.nD Cert.S5Disc.τ).loc Cert.S5Disc.main_arg4) = m ((c.tc : Thread Cert.S5Disc.nD Cert.S5Disc.τ).loc Cert.S5Disc.main_arg4))
      ∧ r.2.sem = fun _ => 0)

def quiescent_S5DiscIdeal [hS5DiscIdeal : Cert.S5DiscIdeal.Facts] : Prop :=
  ∀ (m : (ℓ : Loc Cert.S5DiscIdeal.nD Cert.S5DiscIdeal.τ Cert.S5DiscIdeal.sig) → Buf (Elt Ideal) ℓ) (g : Dev Cert.S5DiscIdeal.nD → PrngReg), Pre_S5DiscIdeal m →
    θ_run (Cert.S5DiscIdeal.defs (F := Ideal)) (onTc (τ := Cert.S5DiscIdeal.τ) (Cert.S5DiscIdeal.main (F := Ideal))) ⟨m, fun _ => 0, g⟩ (fun r => (∀ c : Dev Cert.S5DiscIdeal.nD,
      r.2.mem ((c.tc : Thread Cert.S5DiscIdeal.nD Cert.S5DiscIdeal.τ).loc Cert.S5DiscIdeal.main_arg0) = m ((c.tc : Thread Cert.S5DiscIdeal.nD Cert.S5DiscIdeal.τ).loc Cert.S5DiscIdeal.main_arg0)
      ∧ r.2.mem ((c.tc : Thread Cert.S5DiscIdeal.nD Cert.S5DiscIdeal.τ).loc Cert.S5DiscIdeal.main_arg1) = m ((c.tc : Thread Cert.S5DiscIdeal.nD Cert.S5DiscIdeal.τ).loc Cert.S5DiscIdeal.main_arg1)
      ∧ r.2.mem ((c.tc : Thread Cert.S5DiscIdeal.nD Cert.S5DiscIdeal.τ).loc Cert.S5DiscIdeal.main_arg2) = m ((c.tc : Thread Cert.S5DiscIdeal.nD Cert.S5DiscIdeal.τ).loc Cert.S5DiscIdeal.main_arg2)
      ∧ r.2.mem ((c.tc : Thread Cert.S5DiscIdeal.nD Cert.S5DiscIdeal.τ).loc Cert.S5DiscIdeal.main_arg3) = m ((c.tc : Thread Cert.S5DiscIdeal.nD Cert.S5DiscIdeal.τ).loc Cert.S5DiscIdeal.main_arg3)
      ∧ r.2.mem ((c.tc : Thread Cert.S5DiscIdeal.nD Cert.S5DiscIdeal.τ).loc Cert.S5DiscIdeal.main_arg4) = m ((c.tc : Thread Cert.S5DiscIdeal.nD Cert.S5DiscIdeal.τ).loc Cert.S5DiscIdeal.main_arg4))
      ∧ r.2.sem = fun _ => 0)

def quiescent_S5DiscRefIdeal [hS5DiscRefIdeal : Cert.S5DiscRefIdeal.Facts] : Prop :=
  ∀ (m : (ℓ : Loc Cert.S5DiscRefIdeal.nD Cert.S5DiscRefIdeal.τ Cert.S5DiscRefIdeal.sig) → Buf (Elt Ideal) ℓ) (g : Dev Cert.S5DiscRefIdeal.nD → PrngReg), Pre_S5DiscRefIdeal m →
    θ_run (Cert.S5DiscRefIdeal.defs (F := Ideal)) (onTc (τ := Cert.S5DiscRefIdeal.τ) (Cert.S5DiscRefIdeal.main (F := Ideal))) ⟨m, fun _ => 0, g⟩ (fun r => (∀ c : Dev Cert.S5DiscRefIdeal.nD,
      r.2.mem ((c.tc : Thread Cert.S5DiscRefIdeal.nD Cert.S5DiscRefIdeal.τ).loc Cert.S5DiscRefIdeal.main_arg0) = m ((c.tc : Thread Cert.S5DiscRefIdeal.nD Cert.S5DiscRefIdeal.τ).loc Cert.S5DiscRefIdeal.main_arg0)
      ∧ r.2.mem ((c.tc : Thread Cert.S5DiscRefIdeal.nD Cert.S5DiscRefIdeal.τ).loc Cert.S5DiscRefIdeal.main_arg1) = m ((c.tc : Thread Cert.S5DiscRefIdeal.nD Cert.S5DiscRefIdeal.τ).loc Cert.S5DiscRefIdeal.main_arg1)
      ∧ r.2.mem ((c.tc : Thread Cert.S5DiscRefIdeal.nD Cert.S5DiscRefIdeal.τ).loc Cert.S5DiscRefIdeal.main_arg2) = m ((c.tc : Thread Cert.S5DiscRefIdeal.nD Cert.S5DiscRefIdeal.τ).loc Cert.S5DiscRefIdeal.main_arg2)
      ∧ r.2.mem ((c.tc : Thread Cert.S5DiscRefIdeal.nD Cert.S5DiscRefIdeal.τ).loc Cert.S5DiscRefIdeal.main_arg3) = m ((c.tc : Thread Cert.S5DiscRefIdeal.nD Cert.S5DiscRefIdeal.τ).loc Cert.S5DiscRefIdeal.main_arg3)
      ∧ r.2.mem ((c.tc : Thread Cert.S5DiscRefIdeal.nD Cert.S5DiscRefIdeal.τ).loc Cert.S5DiscRefIdeal.main_arg4) = m ((c.tc : Thread Cert.S5DiscRefIdeal.nD Cert.S5DiscRefIdeal.τ).loc Cert.S5DiscRefIdeal.main_arg4))
      ∧ r.2.sem = fun _ => 0)

def preserves_OddInproj_OddInprojIdeal : Prop :=
  True

def algebraic_OddInprojIdeal_OddInprojRefIdeal [hOddInprojIdeal : Cert.OddInprojIdeal.Facts] [hOddInprojRefIdeal : Cert.OddInprojRefIdeal.Facts] : Prop :=
  ∀ (m : (ℓ : Loc Cert.OddInprojIdeal.nD Cert.OddInprojIdeal.τ Cert.OddInprojIdeal.sig) → Buf (Elt Ideal) ℓ) (g : Dev Cert.OddInprojIdeal.nD → PrngReg)
    (m' : (ℓ : Loc Cert.OddInprojRefIdeal.nD Cert.OddInprojRefIdeal.τ Cert.OddInprojRefIdeal.sig) → Buf (Elt Ideal) ℓ) (g' : Dev Cert.OddInprojRefIdeal.nD → PrngReg), Pre_OddInprojIdeal m →
    (∀ c : Dev Cert.OddInprojIdeal.nD,
      m' ((c.tc : Thread Cert.OddInprojRefIdeal.nD Cert.OddInprojRefIdeal.τ).loc Cert.OddInprojRefIdeal.main_arg0) = m ((c.tc : Thread Cert.OddInprojIdeal.nD Cert.OddInprojIdeal.τ).loc Cert.OddInprojIdeal.main_arg0)
      ∧ m' ((c.tc : Thread Cert.OddInprojRefIdeal.nD Cert.OddInprojRefIdeal.τ).loc Cert.OddInprojRefIdeal.main_arg1) = m ((c.tc : Thread Cert.OddInprojIdeal.nD Cert.OddInprojIdeal.τ).loc Cert.OddInprojIdeal.main_arg1)
      ∧ m' ((c.tc : Thread Cert.OddInprojRefIdeal.nD Cert.OddInprojRefIdeal.τ).loc Cert.OddInprojRefIdeal.main_arg2) = m ((c.tc : Thread Cert.OddInprojIdeal.nD Cert.OddInprojIdeal.τ).loc Cert.OddInprojIdeal.main_arg2)) →
    ∃ (v0 : (c : Dev Cert.OddInprojIdeal.nD) → Buf (Elt Ideal) ((c.tc : Thread Cert.OddInprojIdeal.nD Cert.OddInprojIdeal.τ).loc Cert.OddInprojIdeal.main_v5_0)) (v1 : (c : Dev Cert.OddInprojIdeal.nD) → Buf (Elt Ideal) ((c.tc : Thread Cert.OddInprojIdeal.nD Cert.OddInprojIdeal.τ).loc Cert.OddInprojIdeal.main_v5_1)),
      θ_run (Cert.OddInprojIdeal.defs (F := Ideal)) (onTc (τ := Cert.OddInprojIdeal.τ) (Cert.OddInprojIdeal.main (F := Ideal))) ⟨m, fun _ => 0, g⟩ (fun r => ∀ c : Dev Cert.OddInprojIdeal.nD,
          r.2.mem ((c.tc : Thread Cert.OddInprojIdeal.nD Cert.OddInprojIdeal.τ).loc Cert.OddInprojIdeal.main_v5_0) = v0 c
          ∧ r.2.mem ((c.tc : Thread Cert.OddInprojIdeal.nD Cert.OddInprojIdeal.τ).loc Cert.OddInprojIdeal.main_v5_1) = v1 c
          ∧ r.2.mem ((c.tc : Thread Cert.OddInprojIdeal.nD Cert.OddInprojIdeal.τ).loc Cert.OddInprojIdeal.main_arg0) = m ((c.tc : Thread Cert.OddInprojIdeal.nD Cert.OddInprojIdeal.τ).loc Cert.OddInprojIdeal.main_arg0)
          ∧ r.2.mem ((c.tc : Thread Cert.OddInprojIdeal.nD Cert.OddInprojIdeal.τ).loc Cert.OddInprojIdeal.main_arg1) = m ((c.tc : Thread Cert.OddInprojIdeal.nD Cert.OddInprojIdeal.τ).loc Cert.OddInprojIdeal.main_arg1)
          ∧ r.2.mem ((c.tc : Thread Cert.OddInprojIdeal.nD Cert.OddInprojIdeal.τ).loc Cert.OddInprojIdeal.main_arg2) = m ((c.tc : Thread Cert.OddInprojIdeal.nD Cert.OddInprojIdeal.τ).loc Cert.OddInprojIdeal.main_arg2))
      ∧ θ_run (Cert.OddInprojRefIdeal.defs (F := Ideal)) (onTc (τ := Cert.OddInprojRefIdeal.τ) (Cert.OddInprojRefIdeal.main (F := Ideal))) ⟨m', fun _ => 0, g'⟩ (fun r => ∀ c : Dev Cert.OddInprojRefIdeal.nD,
          r.2.mem ((c.tc : Thread Cert.OddInprojRefIdeal.nD Cert.OddInprojRefIdeal.τ).loc Cert.OddInprojRefIdeal.main_v19) = v0 c
          ∧ r.2.mem ((c.tc : Thread Cert.OddInprojRefIdeal.nD Cert.OddInprojRefIdeal.τ).loc Cert.OddInprojRefIdeal.main_v18) = v1 c
          ∧ r.2.mem ((c.tc : Thread Cert.OddInprojRefIdeal.nD Cert.OddInprojRefIdeal.τ).loc Cert.OddInprojRefIdeal.main_arg0) = m' ((c.tc : Thread Cert.OddInprojRefIdeal.nD Cert.OddInprojRefIdeal.τ).loc Cert.OddInprojRefIdeal.main_arg0)
          ∧ r.2.mem ((c.tc : Thread Cert.OddInprojRefIdeal.nD Cert.OddInprojRefIdeal.τ).loc Cert.OddInprojRefIdeal.main_arg1) = m' ((c.tc : Thread Cert.OddInprojRefIdeal.nD Cert.OddInprojRefIdeal.τ).loc Cert.OddInprojRefIdeal.main_arg1)
          ∧ r.2.mem ((c.tc : Thread Cert.OddInprojRefIdeal.nD Cert.OddInprojRefIdeal.τ).loc Cert.OddInprojRefIdeal.main_arg2) = m' ((c.tc : Thread Cert.OddInprojRefIdeal.nD Cert.OddInprojRefIdeal.τ).loc Cert.OddInprojRefIdeal.main_arg2))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)) →
    ∃ (v0 : (c : Dev Cert.FfnLastIdeal.nD) → Buf (Elt Ideal) ((c.tc : Thread Cert.FfnLastIdeal.nD Cert.FfnLastIdeal.τ).loc Cert.FfnLastIdeal.main_v4)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v4) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v41) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_EvenInproj_EvenInprojIdeal : Prop :=
  True

def algebraic_EvenInprojIdeal_EvenInprojRefIdeal [hEvenInprojIdeal : Cert.EvenInprojIdeal.Facts] [hEvenInprojRefIdeal : Cert.EvenInprojRefIdeal.Facts] : Prop :=
  ∀ (m : (ℓ : Loc Cert.EvenInprojIdeal.nD Cert.EvenInprojIdeal.τ Cert.EvenInprojIdeal.sig) → Buf (Elt Ideal) ℓ) (g : Dev Cert.EvenInprojIdeal.nD → PrngReg)
    (m' : (ℓ : Loc Cert.EvenInprojRefIdeal.nD Cert.EvenInprojRefIdeal.τ Cert.EvenInprojRefIdeal.sig) → Buf (Elt Ideal) ℓ) (g' : Dev Cert.EvenInprojRefIdeal.nD → PrngReg), Pre_EvenInprojIdeal m →
    (∀ c : Dev Cert.EvenInprojIdeal.nD,
      m' ((c.tc : Thread Cert.EvenInprojRefIdeal.nD Cert.EvenInprojRefIdeal.τ).loc Cert.EvenInprojRefIdeal.main_arg0) = m ((c.tc : Thread Cert.EvenInprojIdeal.nD Cert.EvenInprojIdeal.τ).loc Cert.EvenInprojIdeal.main_arg0)
      ∧ m' ((c.tc : Thread Cert.EvenInprojRefIdeal.nD Cert.EvenInprojRefIdeal.τ).loc Cert.EvenInprojRefIdeal.main_arg1) = m ((c.tc : Thread Cert.EvenInprojIdeal.nD Cert.EvenInprojIdeal.τ).loc Cert.EvenInprojIdeal.main_arg1)
      ∧ m' ((c.tc : Thread Cert.EvenInprojRefIdeal.nD Cert.EvenInprojRefIdeal.τ).loc Cert.EvenInprojRefIdeal.main_arg2) = m ((c.tc : Thread Cert.EvenInprojIdeal.nD Cert.EvenInprojIdeal.τ).loc Cert.EvenInprojIdeal.main_arg2)) →
    ∃ (v0 : (c : Dev Cert.EvenInprojIdeal.nD) → Buf (Elt Ideal) ((c.tc : Thread Cert.EvenInprojIdeal.nD Cert.EvenInprojIdeal.τ).loc Cert.EvenInprojIdeal.main_v5_0)) (v1 : (c : Dev Cert.EvenInprojIdeal.nD) → Buf (Elt Ideal) ((c.tc : Thread Cert.EvenInprojIdeal.nD Cert.EvenInprojIdeal.τ).loc Cert.EvenInprojIdeal.main_v5_1)),
      θ_run (Cert.EvenInprojIdeal.defs (F := Ideal)) (onTc (τ := Cert.EvenInprojIdeal.τ) (Cert.EvenInprojIdeal.main (F := Ideal))) ⟨m, fun _ => 0, g⟩ (fun r => ∀ c : Dev Cert.EvenInprojIdeal.nD,
          r.2.mem ((c.tc : Thread Cert.EvenInprojIdeal.nD Cert.EvenInprojIdeal.τ).loc Cert.EvenInprojIdeal.main_v5_0) = v0 c
          ∧ r.2.mem ((c.tc : Thread Cert.EvenInprojIdeal.nD Cert.EvenInprojIdeal.τ).loc Cert.EvenInprojIdeal.main_v5_1) = v1 c
          ∧ r.2.mem ((c.tc : Thread Cert.EvenInprojIdeal.nD Cert.EvenInprojIdeal.τ).loc Cert.EvenInprojIdeal.main_arg0) = m ((c.tc : Thread Cert.EvenInprojIdeal.nD Cert.EvenInprojIdeal.τ).loc Cert.EvenInprojIdeal.main_arg0)
          ∧ r.2.mem ((c.tc : Thread Cert.EvenInprojIdeal.nD Cert.EvenInprojIdeal.τ).loc Cert.EvenInprojIdeal.main_arg1) = m ((c.tc : Thread Cert.EvenInprojIdeal.nD Cert.EvenInprojIdeal.τ).loc Cert.EvenInprojIdeal.main_arg1)
          ∧ r.2.mem ((c.tc : Thread Cert.EvenInprojIdeal.nD Cert.EvenInprojIdeal.τ).loc Cert.EvenInprojIdeal.main_arg2) = m ((c.tc : Thread Cert.EvenInprojIdeal.nD Cert.EvenInprojIdeal.τ).loc Cert.EvenInprojIdeal.main_arg2))
      ∧ θ_run (Cert.EvenInprojRefIdeal.defs (F := Ideal)) (onTc (τ := Cert.EvenInprojRefIdeal.τ) (Cert.EvenInprojRefIdeal.main (F := Ideal))) ⟨m', fun _ => 0, g'⟩ (fun r => ∀ c : Dev Cert.EvenInprojRefIdeal.nD,
          r.2.mem ((c.tc : Thread Cert.EvenInprojRefIdeal.nD Cert.EvenInprojRefIdeal.τ).loc Cert.EvenInprojRefIdeal.main_v17) = v0 c
          ∧ r.2.mem ((c.tc : Thread Cert.EvenInprojRefIdeal.nD Cert.EvenInprojRefIdeal.τ).loc Cert.EvenInprojRefIdeal.main_v15) = v1 c
          ∧ r.2.mem ((c.tc : Thread Cert.EvenInprojRefIdeal.nD Cert.EvenInprojRefIdeal.τ).loc Cert.EvenInprojRefIdeal.main_arg0) = m' ((c.tc : Thread Cert.EvenInprojRefIdeal.nD Cert.EvenInprojRefIdeal.τ).loc Cert.EvenInprojRefIdeal.main_arg0)
          ∧ r.2.mem ((c.tc : Thread Cert.EvenInprojRefIdeal.nD Cert.EvenInprojRefIdeal.τ).loc Cert.EvenInprojRefIdeal.main_arg1) = m' ((c.tc : Thread Cert.EvenInprojRefIdeal.nD Cert.EvenInprojRefIdeal.τ).loc Cert.EvenInprojRefIdeal.main_arg1)
          ∧ r.2.mem ((c.tc : Thread Cert.EvenInprojRefIdeal.nD Cert.EvenInprojRefIdeal.τ).loc Cert.EvenInprojRefIdeal.main_arg2) = m' ((c.tc : Thread Cert.EvenInprojRefIdeal.nD Cert.EvenInprojRefIdeal.τ).loc Cert.EvenInprojRefIdeal.main_arg2))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v0)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v4) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3))

def preserves_S5Disc_S5DiscIdeal : Prop :=
  True

def algebraic_S5DiscIdeal_S5DiscRefIdeal [hS5DiscIdeal : Cert.S5DiscIdeal.Facts] [hS5DiscRefIdeal : Cert.S5DiscRefIdeal.Facts] : Prop :=
  ∀ (m : (ℓ : Loc Cert.S5DiscIdeal.nD Cert.S5DiscIdeal.τ Cert.S5DiscIdeal.sig) → Buf (Elt Ideal) ℓ) (g : Dev Cert.S5DiscIdeal.nD → PrngReg)
    (m' : (ℓ : Loc Cert.S5DiscRefIdeal.nD Cert.S5DiscRefIdeal.τ Cert.S5DiscRefIdeal.sig) → Buf (Elt Ideal) ℓ) (g' : Dev Cert.S5DiscRefIdeal.nD → PrngReg), Pre_S5DiscIdeal m →
    (∀ c : Dev Cert.S5DiscIdeal.nD,
      m' ((c.tc : Thread Cert.S5DiscRefIdeal.nD Cert.S5DiscRefIdeal.τ).loc Cert.S5DiscRefIdeal.main_arg0) = m ((c.tc : Thread Cert.S5DiscIdeal.nD Cert.S5DiscIdeal.τ).loc Cert.S5DiscIdeal.main_arg0)
      ∧ m' ((c.tc : Thread Cert.S5DiscRefIdeal.nD Cert.S5DiscRefIdeal.τ).loc Cert.S5DiscRefIdeal.main_arg1) = m ((c.tc : Thread Cert.S5DiscIdeal.nD Cert.S5DiscIdeal.τ).loc Cert.S5DiscIdeal.main_arg1)
      ∧ m' ((c.tc : Thread Cert.S5DiscRefIdeal.nD Cert.S5DiscRefIdeal.τ).loc Cert.S5DiscRefIdeal.main_arg2) = m ((c.tc : Thread Cert.S5DiscIdeal.nD Cert.S5DiscIdeal.τ).loc Cert.S5DiscIdeal.main_arg2)
      ∧ m' ((c.tc : Thread Cert.S5DiscRefIdeal.nD Cert.S5DiscRefIdeal.τ).loc Cert.S5DiscRefIdeal.main_arg3) = m ((c.tc : Thread Cert.S5DiscIdeal.nD Cert.S5DiscIdeal.τ).loc Cert.S5DiscIdeal.main_arg3)
      ∧ m' ((c.tc : Thread Cert.S5DiscRefIdeal.nD Cert.S5DiscRefIdeal.τ).loc Cert.S5DiscRefIdeal.main_arg4) = m ((c.tc : Thread Cert.S5DiscIdeal.nD Cert.S5DiscIdeal.τ).loc Cert.S5DiscIdeal.main_arg4)) →
    ∃ (v0 : (c : Dev Cert.S5DiscIdeal.nD) → Buf (Elt Ideal) ((c.tc : Thread Cert.S5DiscIdeal.nD Cert.S5DiscIdeal.τ).loc Cert.S5DiscIdeal.main_v3_0)) (v1 : (c : Dev Cert.S5DiscIdeal.nD) → Buf (Elt Ideal) ((c.tc : Thread Cert.S5DiscIdeal.nD Cert.S5DiscIdeal.τ).loc Cert.S5DiscIdeal.main_v3_1)) (v2 : (c : Dev Cert.S5DiscIdeal.nD) → Buf (Elt Ideal) ((c.tc : Thread Cert.S5DiscIdeal.nD Cert.S5DiscIdeal.τ).loc Cert.S5DiscIdeal.main_v3_2)) (v3 : (c : Dev Cert.S5DiscIdeal.nD) → Buf (Elt Ideal) ((c.tc : Thread Cert.S5DiscIdeal.nD Cert.S5DiscIdeal.τ).loc Cert.S5DiscIdeal.main_v3_3)),
      θ_run (Cert.S5DiscIdeal.defs (F := Ideal)) (onTc (τ := Cert.S5DiscIdeal.τ) (Cert.S5DiscIdeal.main (F := Ideal))) ⟨m, fun _ => 0, g⟩ (fun r => ∀ c : Dev Cert.S5DiscIdeal.nD,
          r.2.mem ((c.tc : Thread Cert.S5DiscIdeal.nD Cert.S5DiscIdeal.τ).loc Cert.S5DiscIdeal.main_v3_0) = v0 c
          ∧ r.2.mem ((c.tc : Thread Cert.S5DiscIdeal.nD Cert.S5DiscIdeal.τ).loc Cert.S5DiscIdeal.main_v3_1) = v1 c
          ∧ r.2.mem ((c.tc : Thread Cert.S5DiscIdeal.nD Cert.S5DiscIdeal.τ).loc Cert.S5DiscIdeal.main_v3_2) = v2 c
          ∧ r.2.mem ((c.tc : Thread Cert.S5DiscIdeal.nD Cert.S5DiscIdeal.τ).loc Cert.S5DiscIdeal.main_v3_3) = v3 c
          ∧ r.2.mem ((c.tc : Thread Cert.S5DiscIdeal.nD Cert.S5DiscIdeal.τ).loc Cert.S5DiscIdeal.main_arg0) = m ((c.tc : Thread Cert.S5DiscIdeal.nD Cert.S5DiscIdeal.τ).loc Cert.S5DiscIdeal.main_arg0)
          ∧ r.2.mem ((c.tc : Thread Cert.S5DiscIdeal.nD Cert.S5DiscIdeal.τ).loc Cert.S5DiscIdeal.main_arg1) = m ((c.tc : Thread Cert.S5DiscIdeal.nD Cert.S5DiscIdeal.τ).loc Cert.S5DiscIdeal.main_arg1)
          ∧ r.2.mem ((c.tc : Thread Cert.S5DiscIdeal.nD Cert.S5DiscIdeal.τ).loc Cert.S5DiscIdeal.main_arg2) = m ((c.tc : Thread Cert.S5DiscIdeal.nD Cert.S5DiscIdeal.τ).loc Cert.S5DiscIdeal.main_arg2)
          ∧ r.2.mem ((c.tc : Thread Cert.S5DiscIdeal.nD Cert.S5DiscIdeal.τ).loc Cert.S5DiscIdeal.main_arg3) = m ((c.tc : Thread Cert.S5DiscIdeal.nD Cert.S5DiscIdeal.τ).loc Cert.S5DiscIdeal.main_arg3)
          ∧ r.2.mem ((c.tc : Thread Cert.S5DiscIdeal.nD Cert.S5DiscIdeal.τ).loc Cert.S5DiscIdeal.main_arg4) = m ((c.tc : Thread Cert.S5DiscIdeal.nD Cert.S5DiscIdeal.τ).loc Cert.S5DiscIdeal.main_arg4))
      ∧ θ_run (Cert.S5DiscRefIdeal.defs (F := Ideal)) (onTc (τ := Cert.S5DiscRefIdeal.τ) (Cert.S5DiscRefIdeal.main (F := Ideal))) ⟨m', fun _ => 0, g'⟩ (fun r => ∀ c : Dev Cert.S5DiscRefIdeal.nD,
          r.2.mem ((c.tc : Thread Cert.S5DiscRefIdeal.nD Cert.S5DiscRefIdeal.τ).loc Cert.S5DiscRefIdeal.main_v8) = v0 c
          ∧ r.2.mem ((c.tc : Thread Cert.S5DiscRefIdeal.nD Cert.S5DiscRefIdeal.τ).loc Cert.S5DiscRefIdeal.main_v12) = v1 c
          ∧ r.2.mem ((c.tc : Thread Cert.S5DiscRefIdeal.nD Cert.S5DiscRefIdeal.τ).loc Cert.S5DiscRefIdeal.main_v42) = v2 c
          ∧ r.2.mem ((c.tc : Thread Cert.S5DiscRefIdeal.nD Cert.S5DiscRefIdeal.τ).loc Cert.S5DiscRefIdeal.main_v43) = v3 c
          ∧ r.2.mem ((c.tc : Thread Cert.S5DiscRefIdeal.nD Cert.S5DiscRefIdeal.τ).loc Cert.S5DiscRefIdeal.main_arg0) = m' ((c.tc : Thread Cert.S5DiscRefIdeal.nD Cert.S5DiscRefIdeal.τ).loc Cert.S5DiscRefIdeal.main_arg0)
          ∧ r.2.mem ((c.tc : Thread Cert.S5DiscRefIdeal.nD Cert.S5DiscRefIdeal.τ).loc Cert.S5DiscRefIdeal.main_arg1) = m' ((c.tc : Thread Cert.S5DiscRefIdeal.nD Cert.S5DiscRefIdeal.τ).loc Cert.S5DiscRefIdeal.main_arg1)
          ∧ r.2.mem ((c.tc : Thread Cert.S5DiscRefIdeal.nD Cert.S5DiscRefIdeal.τ).loc Cert.S5DiscRefIdeal.main_arg2) = m' ((c.tc : Thread Cert.S5DiscRefIdeal.nD Cert.S5DiscRefIdeal.τ).loc Cert.S5DiscRefIdeal.main_arg2)
          ∧ r.2.mem ((c.tc : Thread Cert.S5DiscRefIdeal.nD Cert.S5DiscRefIdeal.τ).loc Cert.S5DiscRefIdeal.main_arg3) = m' ((c.tc : Thread Cert.S5DiscRefIdeal.nD Cert.S5DiscRefIdeal.τ).loc Cert.S5DiscRefIdeal.main_arg3)
          ∧ r.2.mem ((c.tc : Thread Cert.S5DiscRefIdeal.nD Cert.S5DiscRefIdeal.τ).loc Cert.S5DiscRefIdeal.main_arg4) = m' ((c.tc : Thread Cert.S5DiscRefIdeal.nD Cert.S5DiscRefIdeal.τ).loc Cert.S5DiscRefIdeal.main_arg4))

def Claim : Prop :=
  ∃ (hOddInproj : Cert.OddInproj.Facts) (hOddInprojIdeal : Cert.OddInprojIdeal.Facts) (hOddInprojRefIdeal : Cert.OddInprojRefIdeal.Facts) (hFfnLast : Cert.FfnLast.Facts) (hFfnLastIdeal : Cert.FfnLastIdeal.Facts) (hFfnLastRefIdeal : Cert.FfnLastRefIdeal.Facts) (hFfn : Cert.Ffn.Facts) (hFfnIdeal : Cert.FfnIdeal.Facts) (hFfnRefIdeal : Cert.FfnRefIdeal.Facts) (hEvenInproj : Cert.EvenInproj.Facts) (hEvenInprojIdeal : Cert.EvenInprojIdeal.Facts) (hEvenInprojRefIdeal : Cert.EvenInprojRefIdeal.Facts) (hOutproj : Cert.Outproj.Facts) (hOutprojIdeal : Cert.OutprojIdeal.Facts) (hOutprojRefIdeal : Cert.OutprojRefIdeal.Facts) (hS5Disc : Cert.S5Disc.Facts) (hS5DiscIdeal : Cert.S5DiscIdeal.Facts) (hS5DiscRefIdeal : Cert.S5DiscRefIdeal.Facts),
    quiescent_OddInproj (hOddInproj := hOddInproj)
    ∧ quiescent_OddInprojIdeal (hOddInprojIdeal := hOddInprojIdeal)
    ∧ quiescent_OddInprojRefIdeal (hOddInprojRefIdeal := hOddInprojRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_Ffn (hFfn := hFfn)
    ∧ quiescent_FfnIdeal (hFfnIdeal := hFfnIdeal)
    ∧ quiescent_FfnRefIdeal (hFfnRefIdeal := hFfnRefIdeal)
    ∧ quiescent_EvenInproj (hEvenInproj := hEvenInproj)
    ∧ quiescent_EvenInprojIdeal (hEvenInprojIdeal := hEvenInprojIdeal)
    ∧ quiescent_EvenInprojRefIdeal (hEvenInprojRefIdeal := hEvenInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_S5Disc (hS5Disc := hS5Disc)
    ∧ quiescent_S5DiscIdeal (hS5DiscIdeal := hS5DiscIdeal)
    ∧ quiescent_S5DiscRefIdeal (hS5DiscRefIdeal := hS5DiscRefIdeal)
    ∧ preserves_OddInproj_OddInprojIdeal
    ∧ algebraic_OddInprojIdeal_OddInprojRefIdeal (hOddInprojIdeal := hOddInprojIdeal) (hOddInprojRefIdeal := hOddInprojRefIdeal)
    ∧ preserves_FfnLast_FfnLastIdeal
    ∧ algebraic_FfnLastIdeal_FfnLastRefIdeal (hFfnLastIdeal := hFfnLastIdeal) (hFfnLastRefIdeal := hFfnLastRefIdeal)
    ∧ preserves_Ffn_FfnIdeal
    ∧ algebraic_FfnIdeal_FfnRefIdeal (hFfnIdeal := hFfnIdeal) (hFfnRefIdeal := hFfnRefIdeal)
    ∧ preserves_EvenInproj_EvenInprojIdeal
    ∧ algebraic_EvenInprojIdeal_EvenInprojRefIdeal (hEvenInprojIdeal := hEvenInprojIdeal) (hEvenInprojRefIdeal := hEvenInprojRefIdeal)
    ∧ preserves_Outproj_OutprojIdeal
    ∧ algebraic_OutprojIdeal_OutprojRefIdeal (hOutprojIdeal := hOutprojIdeal) (hOutprojRefIdeal := hOutprojRefIdeal)
    ∧ preserves_S5Disc_S5DiscIdeal
    ∧ algebraic_S5DiscIdeal_S5DiscRefIdeal (hS5DiscIdeal := hS5DiscIdeal) (hS5DiscRefIdeal := hS5DiscRefIdeal)
-- ==== OddInproj.lean ====
abbrev S8192x2048 : Shape := ⟨2, ![8192, 2048]⟩
abbrev S2048 : Shape := ⟨1, ![2048]⟩
abbrev S2048x6152 : Shape := ⟨2, ![2048, 6152]⟩
abbrev S6152x2048 : Shape := ⟨2, ![6152, 2048]⟩
abbrev S8x2048 : Shape := ⟨2, ![8, 2048]⟩
abbrev S_ : Shape := ⟨0, ![]⟩
abbrev S128x2048 : Shape := ⟨2, ![128, 2048]⟩
abbrev S1x2048 : Shape := ⟨2, ![1, 2048]⟩
abbrev S8192x6144 : Shape := ⟨2, ![8192, 6144]⟩
abbrev S8192x128 : Shape := ⟨2, ![8192, 128]⟩
abbrev S1024x2048 : Shape := ⟨2, ![1024, 2048]⟩
abbrev S512x2048 : Shape := ⟨2, ![512, 2048]⟩
abbrev S1024x512 : Shape := ⟨2, ![1024, 512]⟩
abbrev S1024x128 : Shape := ⟨2, ![1024, 128]⟩
abbrev S12x512x2048 : Shape := ⟨3, ![12, 512, 2048]⟩
abbrev S1024 : Shape := ⟨1, ![1024]⟩
abbrev S1024x1 : Shape := ⟨2, ![1024, 1]⟩
abbrev S1x512x2048 : Shape := ⟨3, ![1, 512, 2048]⟩

abbrev nBuf : Space → Nat
  | .hbm => 12
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6152, .f32⟩
  | .hbm, ⟨3, _⟩ => ⟨S6152x2048, .f32⟩
  | .hbm, ⟨4, _⟩ => ⟨S8x2048, .f32⟩
  | .hbm, ⟨5, _⟩ => ⟨S_, .i32⟩
  | .hbm, ⟨6, _⟩ => ⟨S_, .f32⟩
  | .hbm, ⟨7, _⟩ => ⟨S128x2048, .f32⟩
  | .hbm, ⟨8, _⟩ => ⟨S128x2048, .bf16⟩
  | .hbm, ⟨9, _⟩ => ⟨S1x2048, .f32⟩
  | .hbm, ⟨10, _⟩ => ⟨S8192x6144, .bf16⟩
  | .hbm, ⟨11, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S128x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | .local _ .vmem, ⟨11, _⟩ => ⟨S12x512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 12], ![false, false]⟩

def k0_mult1 (i : grid0.Coords) : BitVec 32 :=
  let c0_i32_4 : BitVec 32 := 0#32
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c11_i32 : BitVec 32 := 11#32
  let v1 : BitVec 32 := Scalar.select v0 arg1 c11_i32
  let c0_i32_0 : BitVec 32 := 0#32
  let v2 : BitVec 1 := Scalar.cmpi .sge v1 c0_i32_0
  let c6_i32 : BitVec 32 := 6#32
  let v3 : BitVec 1 := Scalar.cmpi .slt v1 c6_i32
  let v4 : BitVec 1 := Scalar.andi v2 v3
  let c0_i32_2 : BitVec 32 := 0#32
  let c512_i32 : BitVec 32 := 512#32
  let c0_i32_1 : BitVec 32 := 0#32
  let v5 : BitVec 32 := Scalar.subi v1 c0_i32_1
  let v6 : BitVec 32 := Scalar.muli c512_i32 v5
  let v7 : BitVec 32 := Scalar.addi c0_i32_2 v6
  let c0_i32_3 : BitVec 32 := 0#32
  let v8 : BitVec 32 := Scalar.select v4 v7 c0_i32_3
  let v9 : BitVec 32 := Scalar.addi c0_i32_4 v8
  let c6_i32_5 : BitVec 32 := 6#32
  let v10 : BitVec 1 := Scalar.cmpi .sge v1 c6_i32_5
  let c12_i32 : BitVec 32 := 12#32
  let v11 : BitVec 1 := Scalar.cmpi .slt v1 c12_i32
  let v12 : BitVec 1 := Scalar.andi v10 v11
  let c3080_i32 : BitVec 32 := 3080#32
  let c512_i32_7 : BitVec 32 := 512#32
  let c6_i32_6 : BitVec 32 := 6#32
  let v13 : BitVec 32 := Scalar.subi v1 c6_i32_6
  let v14 : BitVec 32 := Scalar.muli c512_i32_7 v13
  let v15 : BitVec 32 := Scalar.addi c3080_i32 v14
  let c0_i32_8 : BitVec 32 := 0#32
  let v16 : BitVec 32 := Scalar.select v12 v15 c0_i32_8
  let v17 : BitVec 32 := Scalar.addi v9 v16
  v17
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v16 : Index := Scalar.indexCast arg1
  let c0_10 : Index := 0#32
  let c0_11 : Index := 0#32
  ![v16.toNat, 0, 0]
def k0_off2 (i : grid0.Coords) : Fin 3 → Nat :=
  let arg1 : BitVec 32 := BitVec.ofNat 32 (i 1).val
  let v7 : Index := Scalar.indexCast arg1
  let c0_4 : Index := 0#32
  let c0_5 : Index := 0#32
  ![v7.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let v1 : BitVec 32 := Scalar.select v0 arg1 c11_i32
  let c0_i32_0 : BitVec 32 := 0#32
  let v2 : BitVec 1 := Scalar.cmpi .sge v1 c0_i32_0
  let c6_i32 : BitVec 32 := 6#32
  let v3 : BitVec 1 := Scalar.cmpi .slt v1 c6_i32
  let v4 : BitVec 1 := Scalar.andi v2 v3
  let c0_i32_1 : BitVec 32 := 0#32
  let v5 : BitVec 32 := Scalar.subi v1 c0_i32_1
  let c512_i32 : BitVec 32 := 512#32
  let v6 : BitVec 32 := Scalar.muli c512_i32 v5
  let c0_i32_2 : BitVec 32 := 0#32
  let v7 : BitVec 32 := Scalar.addi c0_i32_2 v6
  let c0_i32_3 : BitVec 32 := 0#32
  let v8 : BitVec 32 := Scalar.select v4 v7 c0_i32_3
  let c0_i32_4 : BitVec 32 := 0#32
  let v9 : BitVec 32 := Scalar.addi c0_i32_4 v8
  let c6_i32_5 : BitVec 32 := 6#32
  let v10 : BitVec 1 := Scalar.cmpi .sge v1 c6_i32_5
  let c12_i32 : BitVec 32 := 12#32
  let v11 : BitVec 1 := Scalar.cmpi .slt v1 c12_i32
  let v12 : BitVec 1 := Scalar.andi v10 v11
  let c6_i32_6 : BitVec 32 := 6#32
  let v13 : BitVec 32 := Scalar.subi v1 c6_i32_6
  let c512_i32_7 : BitVec 32 := 512#32
  let v14 : BitVec 32 := Scalar.muli c512_i32_7 v13
  let c3080_i32 : BitVec 32 := 3080#32
  let v15 : BitVec 32 := Scalar.addi c3080_i32 v14
  let c0_i32_8 : BitVec 32 := 0#32
  let v16 : BitVec 32 := Scalar.select v12 v15 c0_i32_8
  let v17 : BitVec 32 := Scalar.addi v9 v16
  let v18 : BitVec 32 := v17
  let c0_i32_9 : BitVec 32 := 0#32
  let c0_i32_10 : BitVec 32 := 0#32
  ![v18.toNat, c0_i32_9.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OddInprojRefIdeal.lean ====
abbrev S8192x2048 : Shape := ⟨2, ![8192, 2048]⟩
abbrev S2048 : Shape := ⟨1, ![2048]⟩
abbrev S2048x6152 : Shape := ⟨2, ![2048, 6152]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x6152 : Shape := ⟨2, ![8192, 6152]⟩
abbrev S8192x3072 : Shape := ⟨2, ![8192, 3072]⟩
abbrev S8192x6144 : Shape := ⟨2, ![8192, 6144]⟩
abbrev S8192x8 : Shape := ⟨2, ![8192, 8]⟩
abbrev S8192x128 : Shape := ⟨2, ![8192, 128]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6152, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x6152, .f32⟩
  | .hbm, ⟨20, _⟩ => ⟨S8192x3072, .f32⟩
  | .hbm, ⟨21, _⟩ => ⟨S8192x3072, .f32⟩
  | .hbm, ⟨22, _⟩ => ⟨S8192x6144, .f32⟩
  | .hbm, ⟨23, _⟩ => ⟨S8192x8, .f32⟩
  | .hbm, ⟨24, _⟩ => ⟨S_, .i32⟩
  | .hbm, ⟨25, _⟩ => ⟨S_, .f32⟩
  | .hbm, ⟨26, _⟩ => ⟨S8192x128, .f32⟩
  | .hbm, ⟨27, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== FfnLast.lean ====
abbrev S8192x2048 : Shape := ⟨2, ![8192, 2048]⟩
abbrev S2x2x2048 : Shape := ⟨3, ![2, 2, 2048]⟩
abbrev S2x2x2048x5632 : Shape := ⟨4, ![2, 2, 2048, 5632]⟩
abbrev S2x2x5632x2048 : Shape := ⟨4, ![2, 2, 5632, 2048]⟩
abbrev S2048 : Shape := ⟨1, ![2048]⟩
abbrev S1x1x2048 : Shape := ⟨3, ![1, 1, 2048]⟩
abbrev S1x2048 : Shape := ⟨2, ![1, 2048]⟩
abbrev S1024x2048 : Shape := ⟨2, ![1024, 2048]⟩
abbrev S1x1x2048x256 : Shape := ⟨4, ![1, 1, 2048, 256]⟩
abbrev S1x1x256x2048 : Shape := ⟨4, ![1, 1, 256, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2x2x2048, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S2048, .f32⟩
  | .hbm, ⟨6, _⟩ => ⟨S1x1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1x1x2048x256, .f32⟩
  | .local _ .vmem, ⟨7, _⟩ => ⟨S1x1x256x2048, .f32⟩
  | .local _ .vmem, ⟨8, _⟩ => ⟨S1x1x256x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnLastRefIdeal.lean ====
abbrev S8192x2048 : Shape := ⟨2, ![8192, 2048]⟩
abbrev S2x2x2048 : Shape := ⟨3, ![2, 2, 2048]⟩
abbrev S2x2x2048x5632 : Shape := ⟨4, ![2, 2, 2048, 5632]⟩
abbrev S2x2x5632x2048 : Shape := ⟨4, ![2, 2, 5632, 2048]⟩
abbrev S2048 : Shape := ⟨1, ![2048]⟩
abbrev S1x1x2048 : Shape := ⟨3, ![1, 1, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S8192x5632 : Shape := ⟨2, ![8192, 5632]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2x2048, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S2048, .f32⟩
  | .hbm, ⟨6, _⟩ => ⟨S1x1x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S1x1x2048x5632, .f32⟩
  | .hbm, ⟨25, _⟩ => ⟨S2048x5632, .f32⟩
  | .hbm, ⟨26, _⟩ => ⟨S1x1x2048x5632, .f32⟩
  | .hbm, ⟨27, _⟩ => ⟨S2048x5632, .f32⟩
  | .hbm, ⟨28, _⟩ => ⟨S1x1x5632x2048, .f32⟩
  | .hbm, ⟨29, _⟩ => ⟨S5632x2048, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S_, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S1x2048, .f32⟩
  | .hbm, ⟨61, _⟩ => ⟨S8192x2048, .f32⟩
  | .hbm, ⟨62, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Ffn.lean ====
abbrev S8192x2048 : Shape := ⟨2, ![8192, 2048]⟩
abbrev S2x2x2048 : Shape := ⟨3, ![2, 2, 2048]⟩
abbrev S2x2x2048x5632 : Shape := ⟨4, ![2, 2, 2048, 5632]⟩
abbrev S2x2x5632x2048 : Shape := ⟨4, ![2, 2, 5632, 2048]⟩
abbrev S1x1x2048 : Shape := ⟨3, ![1, 1, 2048]⟩
abbrev S2048 : Shape := ⟨1, ![2048]⟩
abbrev S1x2048 : Shape := ⟨2, ![1, 2048]⟩
abbrev S1024x2048 : Shape := ⟨2, ![1024, 2048]⟩
abbrev S1x1x2048x256 : Shape := ⟨4, ![1, 1, 2048, 256]⟩
abbrev S1x1x256x2048 : Shape := ⟨4, ![1, 1, 256, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2x2x2048, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S1x1x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1x1x2048x256, .f32⟩
  | .local _ .vmem, ⟨7, _⟩ => ⟨S1x1x256x2048, .f32⟩
  | .local _ .vmem, ⟨8, _⟩ => ⟨S1x1x256x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S8192x2048 : Shape := ⟨2, ![8192, 2048]⟩
abbrev S2x2x2048 : Shape := ⟨3, ![2, 2, 2048]⟩
abbrev S2x2x2048x5632 : Shape := ⟨4, ![2, 2, 2048, 5632]⟩
abbrev S2x2x5632x2048 : Shape := ⟨4, ![2, 2, 5632, 2048]⟩
abbrev S1x1x2048 : Shape := ⟨3, ![1, 1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S8192x5632 : Shape := ⟨2, ![8192, 5632]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2x2048, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S1x1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x1x2048x5632, .f32⟩
  | .hbm, ⟨24, _⟩ => ⟨S2048x5632, .f32⟩
  | .hbm, ⟨25, _⟩ => ⟨S1x1x2048x5632, .f32⟩
  | .hbm, ⟨26, _⟩ => ⟨S2048x5632, .f32⟩
  | .hbm, ⟨27, _⟩ => ⟨S1x1x5632x2048, .f32⟩
  | .hbm, ⟨28, _⟩ => ⟨S5632x2048, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== EvenInproj.lean ====
abbrev S8192x2048 : Shape := ⟨2, ![8192, 2048]⟩
abbrev S2048 : Shape := ⟨1, ![2048]⟩
abbrev S2048x5136 : Shape := ⟨2, ![2048, 5136]⟩
abbrev S5136x2048 : Shape := ⟨2, ![5136, 2048]⟩
abbrev S16x2048 : Shape := ⟨2, ![16, 2048]⟩
abbrev S_ : Shape := ⟨0, ![]⟩
abbrev S128x2048 : Shape := ⟨2, ![128, 2048]⟩
abbrev S1x2048 : Shape := ⟨2, ![1, 2048]⟩
abbrev S8192x5120 : Shape := ⟨2, ![8192, 5120]⟩
abbrev S8192x128 : Shape := ⟨2, ![8192, 128]⟩
abbrev S1024x2048 : Shape := ⟨2, ![1024, 2048]⟩
abbrev S512x2048 : Shape := ⟨2, ![512, 2048]⟩
abbrev S1024x512 : Shape := ⟨2, ![1024, 512]⟩
abbrev S1024x128 : Shape := ⟨2, ![1024, 128]⟩
abbrev S10x512x2048 : Shape := ⟨3, ![10, 512, 2048]⟩
abbrev S1024 : Shape := ⟨1, ![1024]⟩
abbrev S1024x1 : Shape := ⟨2, ![1024, 1]⟩
abbrev S1x512x2048 : Shape := ⟨3, ![1, 512, 2048]⟩

abbrev nBuf : Space → Nat
  | .hbm => 12
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5136, .f32⟩
  | .hbm, ⟨3, _⟩ => ⟨S5136x2048, .f32⟩
  | .hbm, ⟨4, _⟩ => ⟨S16x2048, .f32⟩
  | .hbm, ⟨5, _⟩ => ⟨S_, .i32⟩
  | .hbm, ⟨6, _⟩ => ⟨S_, .f32⟩
  | .hbm, ⟨7, _⟩ => ⟨S128x2048, .f32⟩
  | .hbm, ⟨8, _⟩ => ⟨S128x2048, .bf16⟩
  | .hbm, ⟨9, _⟩ => ⟨S1x2048, .f32⟩
  | .hbm, ⟨10, _⟩ => ⟨S8192x5120, .bf16⟩
  | .hbm, ⟨11, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S128x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | .local _ .vmem, ⟨11, _⟩ => ⟨S10x512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 10], ![false, false]⟩

def k0_mult1 (i : grid0.Coords) : BitVec 32 :=
  let c0_i32_4 : BitVec 32 := 0#32
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c9_i32 : BitVec 32 := 9#32
  let v1 : BitVec 32 := Scalar.select v0 arg1 c9_i32
  let c0_i32_0 : BitVec 32 := 0#32
  let v2 : BitVec 1 := Scalar.cmpi .sge v1 c0_i32_0
  let c10_i32 : BitVec 32 := 10#32
  let v3 : BitVec 1 := Scalar.cmpi .slt v1 c10_i32
  let v4 : BitVec 1 := Scalar.andi v2 v3
  let c0_i32_2 : BitVec 32 := 0#32
  let c512_i32 : BitVec 32 := 512#32
  let c0_i32_1 : BitVec 32 := 0#32
  let v5 : BitVec 32 := Scalar.subi v1 c0_i32_1
  let v6 : BitVec 32 := Scalar.muli c512_i32 v5
  let v7 : BitVec 32 := Scalar.addi c0_i32_2 v6
  let c0_i32_3 : BitVec 32 := 0#32
  let v8 : BitVec 32 := Scalar.select v4 v7 c0_i32_3
  let v9 : BitVec 32 := Scalar.addi c0_i32_4 v8
  v9
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v16 : Index := Scalar.indexCast arg1
  let c0_10 : Index := 0#32
  let c0_11 : Index := 0#32
  ![v16.toNat, 0, 0]
def k0_off2 (i : grid0.Coords) : Fin 3 → Nat :=
  let arg1 : BitVec 32 := BitVec.ofNat 32 (i 1).val
  let v7 : Index := Scalar.indexCast arg1
  let c0_4 : Index := 0#32
  let c0_5 : Index := 0#32
  ![v7.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c9_i32 : BitVec 32 := 9#32
  let v1 : BitVec 32 := Scalar.select v0 arg1 c9_i32
  let c0_i32_0 : BitVec 32 := 0#32
  let v2 : BitVec 1 := Scalar.cmpi .sge v1 c0_i32_0
  let c10_i32 : BitVec 32 := 10#32
  let v3 : BitVec 1 := Scalar.cmpi .slt v1 c10_i32
  let v4 : BitVec 1 := Scalar.andi v2 v3
  let c0_i32_1 : BitVec 32 := 0#32
  let v5 : BitVec 32 := Scalar.subi v1 c0_i32_1
  let c512_i32 : BitVec 32 := 512#32
  let v6 : BitVec 32 := Scalar.muli c512_i32 v5
  let c0_i32_2 : BitVec 32 := 0#32
  let v7 : BitVec 32 := Scalar.addi c0_i32_2 v6
  let c0_i32_3 : BitVec 32 := 0#32
  let v8 : BitVec 32 := Scalar.select v4 v7 c0_i32_3
  let c0_i32_4 : BitVec 32 := 0#32
  let v9 : BitVec 32 := Scalar.addi c0_i32_4 v8
  let v10 : BitVec 32 := v9
  let c0_i32_5 : BitVec 32 := 0#32
  let c0_i32_6 : BitVec 32 := 0#32
  ![v10.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== EvenInprojRefIdeal.lean ====
abbrev S8192x2048 : Shape := ⟨2, ![8192, 2048]⟩
abbrev S2048 : Shape := ⟨1, ![2048]⟩
abbrev S2048x5136 : Shape := ⟨2, ![2048, 5136]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5136 : Shape := ⟨2, ![8192, 5136]⟩
abbrev S8192x16 : Shape := ⟨2, ![8192, 16]⟩
abbrev S8192x128 : Shape := ⟨2, ![8192, 128]⟩
abbrev S8192x5120 : Shape := ⟨2, ![8192, 5120]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5136, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x5136, .f32⟩
  | .hbm, ⟨20, _⟩ => ⟨S8192x16, .f32⟩
  | .hbm, ⟨21, _⟩ => ⟨S_, .i32⟩
  | .hbm, ⟨22, _⟩ => ⟨S_, .f32⟩
  | .hbm, ⟨23, _⟩ => ⟨S8192x128, .f32⟩
  | .hbm, ⟨24, _⟩ => ⟨S8192x5120, .f32⟩
  | .hbm, ⟨25, _⟩ => ⟨S8192x5120, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Outproj.lean ====
abbrev S8192x2048 : Shape := ⟨2, ![8192, 2048]⟩
abbrev S8192x1024 : Shape := ⟨2, ![8192, 1024]⟩
abbrev S2048x2048 : Shape := ⟨2, ![2048, 2048]⟩
abbrev S1024x1024 : Shape := ⟨2, ![1024, 1024]⟩
abbrev S2048x1024 : Shape := ⟨2, ![2048, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .f32⟩
  | .hbm, ⟨4, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S2048x1024, .f32⟩
  | .local _ .vmem, ⟨7, _⟩ => ⟨S2048x1024, .f32⟩
  | .local _ .vmem, ⟨8, _⟩ => ⟨S1024x1024, .f32⟩
  | .local _ .vmem, ⟨9, _⟩ => ⟨S1024x1024, .f32⟩
  | .local _ .vmem, ⟨10, _⟩ => ⟨S2048x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutprojRefIdeal.lean ====
abbrev S8192x2048 : Shape := ⟨2, ![8192, 2048]⟩
abbrev S8192x1024 : Shape := ⟨2, ![8192, 1024]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== S5Disc.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S16x64x64 : Shape := ⟨3, ![16, 64, 64]⟩
abbrev S1x64x64 : Shape := ⟨3, ![1, 64, 64]⟩

abbrev nBuf : Space → Nat
  | .hbm => 12
  | .vmem => 9
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x1, .f32⟩
  | .hbm, ⟨6, _⟩ => ⟨S16x64x64, .f32⟩
  | .hbm, ⟨7, _⟩ => ⟨S16x64x64, .f32⟩
  | .hbm, ⟨8, _⟩ => ⟨S64x64, .f32⟩
  | .hbm, ⟨9, _⟩ => ⟨S64x64, .f32⟩
  | .hbm, ⟨10, _⟩ => ⟨S16x64x64, .f32⟩
  | .hbm, ⟨11, _⟩ => ⟨S16x64x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S16x64x64, .f32⟩
  | .local _ .vmem, ⟨4, _⟩ => ⟨S16x64x64, .f32⟩
  | .local _ .vmem, ⟨5, _⟩ => ⟨S64x64, .f32⟩
  | .local _ .vmem, ⟨6, _⟩ => ⟨S64x64, .f32⟩
  | .local _ .vmem, ⟨7, _⟩ => ⟨S16x64x64, .f32⟩
  | .local _ .vmem, ⟨8, _⟩ => ⟨S16x64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== S5DiscRefIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S16x64x64 : Shape := ⟨3, ![16, 64, 64]⟩

abbrev nBuf : Space → Nat
  | .hbm => 51
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64x1, .f32⟩
  | .hbm, ⟨36, _⟩ => ⟨S64x64x16, .f32⟩
  | .hbm, ⟨37, _⟩ => ⟨S64x64x16, .f32⟩
  | .hbm, ⟨38, _⟩ => ⟨S64x64x1, .f32⟩
  | .hbm, ⟨39, _⟩ => ⟨S64x64x16, .f32⟩
  | .hbm, ⟨40, _⟩ => ⟨S64x64x16, .f32⟩
  | .hbm, ⟨41, _⟩ => ⟨S64x64x16, .f32⟩
  | .hbm, ⟨42, _⟩ => ⟨S64x64x1, .f32⟩
  | .hbm, ⟨43, _⟩ => ⟨S64x64x16, .f32⟩
  | .hbm, ⟨44, _⟩ => ⟨S64x64x16, .f32⟩
  | .hbm, ⟨45, _⟩ => ⟨S64x64x1, .f32⟩
  | .hbm, ⟨46, _⟩ => ⟨S64x64x16, .f32⟩
  | .hbm, ⟨47, _⟩ => ⟨S64x64x16, .f32⟩
  | .hbm, ⟨48, _⟩ => ⟨S64x64x16, .f32⟩
  | .hbm, ⟨49, _⟩ => ⟨S16x64x64, .f32⟩
  | .hbm, ⟨50, _⟩ => ⟨S16x64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]
-- ==== Proof.InprojBody.lean ====
module

public import proofs.«01_k».proof.Proof.Gen.OddInprojIdeal.Skeleton
public import proofs.«01_k».proof.Proof.Gen.OddInprojIdeal.Frame
public import Idealize.ShloMosaic.Lib.Pipeline.Value
public import Idealize.ShloMosaic.Lib.WritesUnit
public import Idealize.ShloMosaic.Lib.VecWindow

/-! What one run of the input projection's body does to its buffers, in the four cases of its two conditionals. -/

@[expose] public section

set_option maxRecDepth 16384

noncomputable section

namespace Cert.OddInprojIdeal.Tracked

open Cert.OddInprojIdeal Cert.OddInprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)

variable {F : FTy → Type} [FloatOps F]

local notation "𝕄" => MT nD τ sig Unit (Elt F) ℕ (UR sig nD τ) ℕ

/-- The slab of the weight scratch that the body at `i` reads. -/
abbrev slab (i : grid0.Coords) : Rect S12x512x2048 := Rect.unit (s := S12x512x2048) (k0_off2 i) S1x512x2048.size (k0_off2_inb i)

/-- The slab the body stores is the one it reads. -/
theorem off1_eq (i : grid0.Coords) : k0_off1 i = k0_off2 i := rfl

/-- A load through the rectangle of the last store reads what was stored. -/
theorem readCov_slab {κ : Kind} {sp : Space} (v : View sig κ sp S12x512x2048 .bf16) {off off' : Fin 3 → ℕ} (h : off = off')
    (inb : ∀ a, off a + S1x512x2048.size a ≤ S12x512x2048.size a) (inb' : ∀ a, off' a + S1x512x2048.size a ≤ S12x512x2048.size a) (w : Vec F S1x512x2048 .bf16) :
    v.readCov [⟨Rect.unit (s := S12x512x2048) off S1x512x2048.size inb, w⟩] (Rect.unit (s := S12x512x2048) off' S1x512x2048.size inb').toLoadRect = w := by
  subst h
  exact View.readCov_cons_toLoadRect v (Rect.unit (s := S12x512x2048) off S1x512x2048.size inb) w []

/-- A slab stored over any contents: the slab holds what was stored, the rest what it held. -/
theorem stored_slab {κ : Kind} {sp : Space} (v : View sig κ sp S12x512x2048 .bf16) (f : v.ty.Contents (Elt F)) {off off' : Fin 3 → ℕ} (h : off = off')
    (inb : ∀ a, off a + S1x512x2048.size a ≤ S12x512x2048.size a) (inb' : ∀ a, off' a + S1x512x2048.size a ≤ S12x512x2048.size a) (w : Vec F S1x512x2048 .bf16) :
    ld (v.read (Elt F) (v.writes (Elt F) f [⟨Rect.unit (s := S12x512x2048) off S1x512x2048.size inb, w⟩])) (Rect.unit (s := S12x512x2048) off' S1x512x2048.size inb') = w
    ∧ ∀ y, y ∉ (Rect.unit (s := S12x512x2048) off' S1x512x2048.size inb').set → v.read (Elt F) (v.writes (Elt F) f [⟨Rect.unit (s := S12x512x2048) off S1x512x2048.size inb, w⟩]) y = v.read (Elt F) f y := by
  subst h
  constructor
  · funext x
    exact View.read_writes_cons_emb v f (Rect.unit (s := S12x512x2048) off S1x512x2048.size inb) w [] x
  · intro y hy
    rw [View.writes_cons]
    exact View.read_slice_write_of_not_mem _ _ _ _ (by rw [Rect.map_emb_univ]; exact hy)

/-- A whole load of a whole memref reads the contents it was given. -/
theorem whole_load {s : Shape} {e : EltTy} (a : Memref sig .tc .vmem s e) (ha : a.IsWhole) (x : Vec F s e) {off : Fin s.rank → ℕ} (inb : ∀ b, off b + s.size b ≤ s.size b) :
    a.view.readAt (Elt F) (Rect.unit off s.size inb).toLoadRect (ha.unread x) = x :=
  (View.readAt_full _ _ _).trans (ha.read_unread x)

set_option maxHeartbeats 1000000 in
/-- The body where j = 0 and i = 0. -/
theorem body_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S128x2048 .bf16) (harg5 : arg5.IsWhole) (arg6 : Memref sig .tc .vmem S1024x512 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S12x512x2048 .bf16) (harg9 : arg9.IsWhole) (hc0 : k0_cond1 i = 1#1) (hc1 : k0_cond2 i = 1#1)
    (x0 : Vec F S1024x2048 .f32) (x1 : Vec F S1x2048 .f32) (x2 : Vec F S512x2048 .f32) (x3 : Vec F S128x2048 .bf16) (d7 : Vec F S1024x128 .f32) (d8 : Vec F S1024x2048 .bf16) (d9 : Vec F S12x512x2048 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d7 ∗ owns (c : Thread nD τ) arg8 fullShare d8 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 (k0_pay2 x0 x1) (k0_pay4 x2)) ∗ owns (c : Thread nD τ) arg7 fullShare (k0_pay3 x0 x1 x3) ∗ owns (c : Thread nD τ) arg8 fullShare (k0_pay2 x0 x1) ∗ (∃ e, ⌜ld e (slab i) = k0_pay4 x2 ∧ ∀ y, y ∉ (slab i).set → e y = d9 y⌝ ∗ owns (c : Thread nD τ) arg9 fullShare e)) -∗ K ⟨⟩))
          ⊢ wp frame (wpE (defs₀ (F := F)) Variants.none c none) E (cc0_inproj i arg2 harg2 arg3 harg3 arg4 harg4 arg5 harg5 arg6 harg6 arg7 harg7 arg8 harg8 arg9 harg9) K := by
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full]
      have e6 : body_A.sl.v6 c arg2 harg2 arg3 harg3 arg8 x0 x1 = k0_pay2 x0 x1 := by
        unfold body_A.sl.v6
        refine (View.readCov_full _ _ _ _ _).trans ?_
        rw [whole_load arg2 harg2, whole_load arg3 harg3]
      have e8 : body_A.sl.v8 c i arg4 harg4 arg9 hc1 x2 = k0_pay4 x2 := by
        unfold body_A.sl.v8
        refine (readCov_slab _ (off1_eq i) _ _ _).trans ?_
        rw [whole_load arg4 harg4]
      rw [e6, e8]
    isplitl [H5]
    · iexists _; isplitr; swap; · iexact H5
      ipureintro
      rw [View.read_writes_full]
      rw [whole_load arg2 harg2, whole_load arg3 harg3, whole_load arg5 harg5]
    isplitl [HS0]
    · iexists _; isplitr; swap; · iexact HS0
      ipureintro
      unfold body_A.sl.HS0_1
      rw [View.read_writes_full]
      rw [whole_load arg2 harg2, whole_load arg3 harg3]
    iexists _; isplitr; swap
    · iexists _; isplitr; swap; · iexact HS1
      ipureintro; rfl
    ipureintro
    unfold body_A.sl.HS1_1
    rw [whole_load arg4 harg4]
    obtain ⟨h1, h2⟩ := stored_slab arg9.view (harg9.unread d9) (off1_eq i) (k0_off1_inb i hc1) (k0_off2_inb i) (k0_pay4 x2)
    refine ⟨h1, fun y hy => (h2 y hy).trans ?_⟩
    rw [harg9.read_unread]

set_option maxHeartbeats 1000000 in
/-- The body where j ≠ 0 and i = 0. -/
theorem body_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S128x2048 .bf16) (harg5 : arg5.IsWhole) (arg6 : Memref sig .tc .vmem S1024x512 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S12x512x2048 .bf16) (harg9 : arg9.IsWhole) (hc0 : ¬k0_cond1 i = 1#1) (hc1 : k0_cond2 i = 1#1)
    (x0 : Vec F S1024x2048 .f32) (x1 : Vec F S1x2048 .f32) (x2 : Vec F S512x2048 .f32) (x3 : Vec F S128x2048 .bf16) (d7 : Vec F S1024x128 .f32) (d8 : Vec F S1024x2048 .bf16) (d9 : Vec F S12x512x2048 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d7 ∗ owns (c : Thread nD τ) arg8 fullShare d8 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 d8 (k0_pay4 x2)) ∗ owns (c : Thread nD τ) arg7 fullShare d7 ∗ owns (c : Thread nD τ) arg8 fullShare d8 ∗ (∃ e, ⌜ld e (slab i) = k0_pay4 x2 ∧ ∀ y, y ∉ (slab i).set → e y = d9 y⌝ ∗ owns (c : Thread nD τ) arg9 fullShare e)) -∗ K ⟨⟩))
          ⊢ wp frame (wpE (defs₀ (F := F)) Variants.none c none) E (cc0_inproj i arg2 harg2 arg3 harg3 arg4 harg4 arg5 harg5 arg6 harg6 arg7 harg7 arg8 harg8 arg9 harg9) K := by
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full]
      have e8 : body_B.sl.v8 c i arg4 harg4 arg9 hc1 x2 = k0_pay4 x2 := by
        unfold body_B.sl.v8
        refine (readCov_slab _ (off1_eq i) _ _ _).trans ?_
        rw [whole_load arg4 harg4]
      rw [whole_load arg8 harg8, e8]
    isplitl [H5]
    · iexists _; isplitr; swap; · iexact H5
      ipureintro
      exact harg7.read_unread _
    isplitl [HS0]
    · iexists _; isplitr; swap; · iexact HS0
      ipureintro
      exact harg8.read_unread _
    iexists _; isplitr; swap
    · iexists _; isplitr; swap; · iexact HS1
      ipureintro; rfl
    ipureintro
    unfold body_B.sl.HS1_1
    rw [whole_load arg4 harg4]
    obtain ⟨h1, h2⟩ := stored_slab arg9.view (harg9.unread d9) (off1_eq i) (k0_off1_inb i hc1) (k0_off2_inb i) (k0_pay4 x2)
    refine ⟨h1, fun y hy => (h2 y hy).trans ?_⟩
    rw [harg9.read_unread]

set_option maxHeartbeats 1000000 in
/-- The body where j = 0 and i ≠ 0. -/
theorem body_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S128x2048 .bf16) (harg5 : arg5.IsWhole) (arg6 : Memref sig .tc .vmem S1024x512 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S12x512x2048 .bf16) (harg9 : arg9.IsWhole) (hc0 : k0_cond1 i = 1#1) (hc1 : ¬k0_cond2 i = 1#1)
    (x0 : Vec F S1024x2048 .f32) (x1 : Vec F S1x2048 .f32) (x2 : Vec F S512x2048 .f32) (x3 : Vec F S128x2048 .bf16) (d7 : Vec F S1024x128 .f32) (d8 : Vec F S1024x2048 .bf16) (d9 : Vec F S12x512x2048 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d7 ∗ owns (c : Thread nD τ) arg8 fullShare d8 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 (k0_pay2 x0 x1) (ld d9 (slab i))) ∗ owns (c : Thread nD τ) arg7 fullShare (k0_pay3 x0 x1 x3) ∗ owns (c : Thread nD τ) arg8 fullShare (k0_pay2 x0 x1) ∗ owns (c : Thread nD τ) arg9 fullShare d9) -∗ K ⟨⟩))
          ⊢ wp frame (wpE (defs₀ (F := F)) Variants.none c none) E (cc0_inproj i arg2 harg2 arg3 harg3 arg4 harg4 arg5 harg5 arg6 harg6 arg7 harg7 arg8 harg8 arg9 harg9) K := by
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full]
      have e6 : body_C.sl.v6 c arg2 harg2 arg3 harg3 arg8 x0 x1 = k0_pay2 x0 x1 := by
        unfold body_C.sl.v6
        refine (View.readCov_full _ _ _ _ _).trans ?_
        rw [whole_load arg2 harg2, whole_load arg3 harg3]
      rw [e6]
      rw [View.readAt_eq_ld, harg9.read_unread]
    isplitl [H5]
    · iexists _; isplitr; swap; · iexact H5
      ipureintro
      rw [View.read_writes_full]
      rw [whole_load arg2 harg2, whole_load arg3 harg3, whole_load arg5 harg5]
    isplitl [HS0]
    · iexists _; isplitr; swap; · iexact HS0
      ipureintro
      unfold body_C.sl.HS0_1
      rw [View.read_writes_full]
      rw [whole_load arg2 harg2, whole_load arg3 harg3]
    iexists _; isplitr; swap; · iexact HS1
    ipureintro
    exact harg9.read_unread _

set_option maxHeartbeats 1000000 in
/-- The body where j ≠ 0 and i ≠ 0. -/
theorem body_D (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S128x2048 .bf16) (harg5 : arg5.IsWhole) (arg6 : Memref sig .tc .vmem S1024x512 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S12x512x2048 .bf16) (harg9 : arg9.IsWhole) (hc0 : ¬k0_cond1 i = 1#1) (hc1 : ¬k0_cond2 i = 1#1)
    (x0 : Vec F S1024x2048 .f32) (x1 : Vec F S1x2048 .f32) (x2 : Vec F S512x2048 .f32) (x3 : Vec F S128x2048 .bf16) (d7 : Vec F S1024x128 .f32) (d8 : Vec F S1024x2048 .bf16) (d9 : Vec F S12x512x2048 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d7 ∗ owns (c : Thread nD τ) arg8 fullShare d8 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 d8 (ld d9 (slab i))) ∗ owns (c : Thread nD τ) arg7 fullShare d7 ∗ owns (c : Thread nD τ) arg8 fullShare d8 ∗ owns (c : Thread nD τ) arg9 fullShare d9) -∗ K ⟨⟩))
          ⊢ wp frame (wpE (defs₀ (F := F)) Variants.none c none) E (cc0_inproj i arg2 harg2 arg3 harg3 arg4 harg4 arg5 harg5 arg6 harg6 arg7 harg7 arg8 harg8 arg9 harg9) K := by
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full]
      rw [whole_load arg8 harg8]
      rw [View.readAt_eq_ld, harg9.read_unread]
    isplitl [H5]
    · iexists _; isplitr; swap; · iexact H5
      ipureintro
      exact harg7.read_unread _
    isplitl [HS0]
    · iexists _; isplitr; swap; · iexact HS0
      ipureintro
      exact harg8.read_unread _
    iexists _; isplitr; swap; · iexact HS1
    ipureintro
    exact harg9.read_unread _

end Cert.OddInprojIdeal.Tracked

end
-- ==== Proof.InprojRun.lean ====
module

public import proofs.«01_k».proof.Proof.InprojBody
public import proofs.«01_k».proof.Proof.Gen.OddInprojIdeal.Points
public import Idealize.ShloMosaic.Lib.Claim
public import Idealize.ShloMosaic.Lib.Pipeline.TableIdle

/-! The run of the input projection with the contents of its two scratch buffers followed from point to point: the
normalised rows of the current row block, and the slabs of rounded weights stored during the first row block. -/

@[expose] public section

set_option maxRecDepth 16384

noncomputable section

namespace Cert.OddInprojIdeal.Tracked

open Cert.OddInprojIdeal Cert.OddInprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem cond1_iff (t : Fin cfg0.N) : k0_cond1 (grid0.coords t) = 1#1 ↔ t.val % 12 = 0 := by
  have ht : t.val < 96 := Nat.lt_of_lt_of_eq t.isLt N_0
  have e1 : (grid0.coords t 1).val = t.val / 1 % 12 := Pipeline.Grid.coords_val t 1 (by decide) rfl
  simp only [k0_cond1, e1]
  word_cmp

theorem cond2_iff (t : Fin cfg0.N) : k0_cond2 (grid0.coords t) = 1#1 ↔ t.val < 12 := by
  have ht : t.val < 96 := Nat.lt_of_lt_of_eq t.isLt N_0
  have e0 : (grid0.coords t 0).val = t.val / 12 % 8 := Pipeline.Grid.coords_val t 0 (by decide) rfl
  simp only [k0_cond2, e0]
  word_cmp

/-- The slab of point `t` is number `t mod 12`. -/
theorem off2_eq : ∀ t : Fin cfg0.N, k0_off2 (grid0.coords t) = ![t.val % 12, 0, 0] :=
  (by decide +kernel : ∀ t : Fin grid0.N, k0_off2 (grid0.coords t) = ![t.val % 12, 0, 0])

theorem idle5_iff (t : Fin cfg0.N) : cfg0.idle 5 (grid0.coords t) = !(k0_cond1 (grid0.coords t) == 1#1) := rfl

/-- The first point of the row block of point number `n`. -/
def rowPt (n : ℕ) : Fin cfg0.N := ⟨n / 12 * 12 % 96, lt_of_lt_of_eq (Nat.mod_lt _ (by decide)) N_0.symm⟩
/-- The point of the first row block that stores slab `n mod 12`. -/
def colPt (n : ℕ) : Fin cfg0.N := ⟨n % 12, lt_of_lt_of_eq (lt_trans (Nat.mod_lt _ (by decide)) (by decide : 12 < 96)) N_0.symm⟩

theorem rowPt_self (t : Fin cfg0.N) (h : t.val % 12 = 0) : rowPt t.val = t := by
  have ht : t.val < 96 := Nat.lt_of_lt_of_eq t.isLt N_0
  apply Fin.ext
  show t.val / 12 * 12 % 96 = t.val
  omega

theorem rowPt_pred (n : ℕ) (h : n % 12 ≠ 0) : rowPt (n - 1) = rowPt n := by
  apply Fin.ext
  show (n - 1) / 12 * 12 % 96 = n / 12 * 12 % 96
  omega

theorem rowPt_succ (n : ℕ) (h : (n + 1) % 12 ≠ 0) : rowPt (n + 1) = rowPt n := (rowPt_pred (n + 1) h).symm

theorem colPt_self (t : Fin cfg0.N) (h : t.val < 12) : colPt t.val = t := by
  apply Fin.ext
  show t.val % 12 = t.val
  omega

/-! ## What the buffers hold -/

/-- The normalised rows of the row block of point number `n`. -/
def hBlk (c : Dev nD) (n : ℕ) : Vec F S1024x2048 .bf16 := k0_pay2 (iblk m c 0 (rowPt n)) (iblk m c 1 (rowPt n))
/-- Slab `n mod 12` of the rounded weights. -/
def wSlab (c : Dev nD) (n : ℕ) : Vec F S1x512x2048 .bf16 := k0_pay4 (iblk m c 2 (colPt n))
/-- The block of the product stored at point number `n`. -/
def zBlk (c : Dev nD) (n : ℕ) : Vec F S1024x512 .bf16 := k0_pay5 (hBlk m c n) (wSlab m c n)
/-- The block of gates of the row block of point number `n`. -/
def gBlk (c : Dev nD) (n : ℕ) : Vec F S1024x128 .f32 := k0_pay3 (iblk m c 0 (rowPt n)) (iblk m c 1 (rowPt n)) (iblk m c 3 (rowPt n))

/-- What is known of the row scratch before point number `n`. -/
def RowsAt (c : Dev nD) (n : ℕ) (d : Vec F S1024x2048 .bf16) : Prop := n % 12 ≠ 0 → d = hBlk m c n
/-- What is known of the weight scratch before point number `n`: the slabs of the points passed. -/
def SlabsAt (c : Dev nD) (n : ℕ) (e : Vec F S12x512x2048 .bf16) : Prop :=
  ∀ t : Fin cfg0.N, t.val % 12 < n → ld e (slab (grid0.coords t)) = wSlab m c t.val

theorem slabs_store (c : Dev nD) (t : Fin cfg0.N) (ht : t.val < 12) (d e : Vec F S12x512x2048 .bf16) (hd : SlabsAt m c t.val d)
    (he : ld e (slab (grid0.coords t)) = k0_pay4 (iblk m c 2 t)) (hk : ∀ y, y ∉ (slab (grid0.coords t)).set → e y = d y) :
    SlabsAt m c (t.val + 1) e := by
  intro u hu
  by_cases h : u.val % 12 = t.val
  · have e1 : k0_off2 (grid0.coords u) = k0_off2 (grid0.coords t) := by rw [off2_eq, off2_eq, h, Nat.mod_eq_of_lt ht]
    have e2 : ∀ (o : Fin 3 → ℕ) (_ : o = k0_off2 (grid0.coords t)) (inb : ∀ a, o a + S1x512x2048.size a ≤ S12x512x2048.size a),
        ld e (Rect.unit (s := S12x512x2048) o S1x512x2048.size inb) = k0_pay4 (iblk m c 2 t) := by
      intro o ho inb; subst ho; exact he
    refine (e2 _ e1 _).trans ?_
    unfold wSlab
    rw [show colPt u.val = t from Fin.ext h]
  · rw [← hd u (by omega)]
    funext x
    refine hk _ ?_
    rw [Rect.mem_set_unit]
    intro hall
    have h0 := hall 0
    have hx : (x 0).val < 1 := (x 0).isLt
    have e3 : (((slab (grid0.coords u)).idx x) 0).val = k0_off2 (grid0.coords u) 0 + 1 * (x 0).val := rfl
    rw [e3, off2_eq, off2_eq] at h0
    change t.val % 12 ≤ u.val % 12 + 1 * (x 0).val ∧ u.val % 12 + 1 * (x 0).val < t.val % 12 + 1 at h0
    omega

theorem slabs_mono (c : Dev nD) (n : ℕ) (hn : 12 ≤ n) (e : Vec F S12x512x2048 .bf16) (h : SlabsAt m c n e) : SlabsAt m c (n + 1) e :=
  fun t _ => h t (by omega)

/-! ## The proof data -/

abbrev sc0 : Memref sig .tc .vmem S1024x2048 .bf16 := Memref.whole cc0_scratch0
abbrev sc1 : Memref sig .tc .vmem S12x512x2048 .bf16 := Memref.whole cc0_scratch1

/-- The invariant before point number `n`. -/
def Inv (c : Dev nD) (n : ℕ) : sProp 𝕄 :=
  iprop(iprop((∃ d, ⌜RowsAt m c n d⌝ ∗ owns (c : Thread nD τ) sc0 fullShare d) ∗ (∃ e, ⌜SlabsAt m c n e⌝ ∗ owns (c : Thread nD τ) sc1 fullShare e)) ∗ (∃ r, prngReg c r))

theorem scoped_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => zBlk m c t.val
    | ⟨5, _⟩ => gBlk m c t.val
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = zBlk m c t.val := by dsimp only [dats]
theorem after_5 (c : Dev nD) (t : Fin cfg0.N) : (dats m 0 c).after 5 t = gBlk m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem gBlk_pred (c : Dev nD) (n : ℕ) (h : n % 12 ≠ 0) : gBlk m c (n - 1) = gBlk m c n := by
  unfold gBlk; rw [rowPt_pred n h]

theorem fresh5 : ∀ t : Fin cfg0.N, t.val % 12 ≠ 0 → cfg0.fresh 5 t.val = false :=
  (by decide +kernel : ∀ t : Fin grid0.N, t.val % 12 ≠ 0 → cfg0.fresh 5 t.val = false)

theorem idle5_mod (t : Fin cfg0.N) (h : cfg0.idle 5 (grid0.coords t) = true) : t.val % 12 ≠ 0 := by
  intro h0
  rw [idle5_iff, (cond1_iff t).mpr h0] at h
  exact absurd h (by decide)

/-- Where the gates are not stored, their buffer holds the row block's gates already. -/
theorem before_5 (c : Dev nD) (t : Fin cfg0.N) (h : t.val % 12 ≠ 0) (d) : (dats m 0 c).before 5 t d = gBlk m c t.val := by
  rw [(dats m 0 c).before_out_traj 5 rfl (fun _ _ => rfl)
    (fun u _ hi _ => by rw [after_5, after_5]; exact (gBlk_pred m c u.val (idle5_mod u hi)).symm) t.val t rfl d,
    fresh5 t h, if_neg Bool.false_ne_true, after_5]
  exact gBlk_pred m c t.val h

/-! ## The body at a point -/

abbrev mw0 (t : Fin cfg0.N) : Memref sig .tc .vmem S1024x2048 .f32 := win0_0.stage (cfg0.slots t 0)
abbrev mw1 (t : Fin cfg0.N) : Memref sig .tc .vmem S1x2048 .f32 := win0_1.stage (cfg0.slots t 1)
abbrev mw2 (t : Fin cfg0.N) : Memref sig .tc .vmem S512x2048 .f32 := win0_2.stage (cfg0.slots t 2)
abbrev mw3 (t : Fin cfg0.N) : Memref sig .tc .vmem S128x2048 .bf16 := win0_3.stage (cfg0.slots t 3)
abbrev mw4 (t : Fin cfg0.N) : Memref sig .tc .vmem S1024x512 .bf16 := win0_4.stage (cfg0.slots t 4)
abbrev mw5 (t : Fin cfg0.N) : Memref sig .tc .vmem S1024x128 .f32 := win0_5.stage (cfg0.slots t 5)

def bodyPre (c : Dev nD) (t : Fin cfg0.N) : sProp 𝕄 :=
  iprop((dats m 0 c).Φ t.castSucc ∗ (dats m 0 c).owesAt () t.castSucc
    ∗ (∃ d, owns (c : Thread nD τ) (mw0 t) fullShare ((dats m 0 c).before 0 t d))
    ∗ (∃ d, owns (c : Thread nD τ) (mw1 t) fullShare ((dats m 0 c).before 1 t d))
    ∗ (∃ d, owns (c : Thread nD τ) (mw2 t) fullShare ((dats m 0 c).before 2 t d))
    ∗ (∃ d, owns (c : Thread nD τ) (mw3 t) fullShare ((dats m 0 c).before 3 t d))
    ∗ (∃ d, owns (c : Thread nD τ) (mw4 t) fullShare ((dats m 0 c).before 4 t d))
    ∗ (∃ d, owns (c : Thread nD τ) (mw5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_0 (c : Dev nD) (t : Fin cfg0.N) : (dats m 0 c).leavesExact 0 t = owns (c : Thread nD τ) (mw0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (mw1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (mw2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (mw3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (mw4 t) fullShare (zBlk m c t.val) := by
  unfold Dat.leavesExact; rw [show cfg0.idle 4 (cfg0.grid.coords t) = false from rfl, after_4]

/-- The gates' buffer after any point, stored there or found there. -/
theorem leaves_5 (c : Dev nD) (t : Fin cfg0.N) :
    owns (c : Thread nD τ) (mw5 t) fullShare (gBlk m c t.val) ⊢ ((dats m 0 c).leavesExact 5 t : sProp 𝕄) := by
  cases hi : cfg0.idle 5 (cfg0.grid.coords t)
  · unfold Dat.leavesExact; rw [hi, after_5]
  · have h0 : t.val % 12 ≠ 0 := idle5_mod t hi
    cases hf : (cfg0.win 5).flush t
    · rw [(dats m 0 c).leavesExact_idle 5 t hi hf]
      iintro H
      iexists (fun _ => Classical.arbitrary _)
      rw [before_5 m c t h0]
      iexact H
    · unfold Dat.leavesExact; rw [hi, hf, after_5]

set_option maxHeartbeats 3200000 in
theorem sound_A (c : Dev nD) (t : Fin cfg0.N) (h0 : t.val % 12 = 0) (h1 : t.val < 12) :
    bodyPre m c t ⊢ wp frame (wpE (defs₀ (F := F)) Variants.none c none) Set.univ (bodyAt0 t) (fun _ => bodyPost m c t) := by
  have hN : t.val < 96 := lt_of_lt_of_eq t.isLt (show cfg0.N = 96 from N_0)
  unfold bodyPre bodyPost bodyAt0
  simp only [before_0, before_1, before_2, before_3, leaves_0, leaves_1, leaves_2, leaves_3, leaves_4]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  iintro ⟨⟨⟨⟨%dh, %hh, HS0⟩, ⟨%dw, %hw, HS1⟩⟩, Hg⟩, Ho, ⟨%d0, H0⟩, ⟨%d1, H1⟩, ⟨%d2, H2⟩, ⟨%d3, H3⟩, ⟨%d4, H4⟩, ⟨%d5, H5⟩⟩
  iapply (body_A c (grid0.coords t) _ _ _ _ _ _ _ _ _ _ _ _ _ _ _ _ ((cond1_iff t).mpr h0) ((cond2_iff t).mpr h1) (iblk m c 0 t) (iblk m c 1 t) (iblk m c 2 t) (iblk m c 3 t) ((dats m 0 c).before 5 t d5) dh dw Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨H0, H1, H2, H3, H4, H5, HS0, ⟨%e, %he, HS1⟩⟩
  isplitl [HS0 HS1 Hg]
  · isplitl [HS0 HS1]
    · isplitl [HS0]
      · iexists _; isplitr; swap; · iexact HS0
        ipureintro
        intro hn
        unfold hBlk
        rw [rowPt_succ t.val hn]
        rw [rowPt_self t h0]
      iexists _; isplitr; swap; · iexact HS1
      ipureintro
      exact slabs_store m c t h1 dw e hw he.1 he.2
    iexact Hg
  isplitl [Ho]; · iexact Ho
  isplitl [H0]; · iexact H0
  isplitl [H1]; · iexact H1
  isplitl [H2]; · iexact H2
  isplitl [H3]; · iexact H3
  isplitl [H4]
  · have e1 : hBlk m c t.val = k0_pay2 (iblk m c 0 t) (iblk m c 1 t) := by unfold hBlk; rw [rowPt_self t h0]
    have e2 : wSlab m c t.val = k0_pay4 (iblk m c 2 t) := by unfold wSlab; rw [colPt_self t h1]
    unfold zBlk
    rw [e1, e2]
    iexact H4
  iapply (leaves_5 m c t)
  have e5 : gBlk m c t.val = k0_pay3 (iblk m c 0 t) (iblk m c 1 t) (iblk m c 3 t) := by unfold gBlk; rw [rowPt_self t h0]
  rw [e5]
  iexact H5

set_option maxHeartbeats 3200000 in
theorem sound_B (c : Dev nD) (t : Fin cfg0.N) (h0 : ¬t.val % 12 = 0) (h1 : t.val < 12) :
    bodyPre m c t ⊢ wp frame (wpE (defs₀ (F := F)) Variants.none c none) Set.univ (bodyAt0 t) (fun _ => bodyPost m c t) := by
  have hN : t.val < 96 := lt_of_lt_of_eq t.isLt (show cfg0.N = 96 from N_0)
  unfold bodyPre bodyPost bodyAt0
  simp only [before_0, before_1, before_2, before_3, leaves_0, leaves_1, leaves_2, leaves_3, leaves_4]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  iintro ⟨⟨⟨⟨%dh, %hh, HS0⟩, ⟨%dw, %hw, HS1⟩⟩, Hg⟩, Ho, ⟨%d0, H0⟩, ⟨%d1, H1⟩, ⟨%d2, H2⟩, ⟨%d3, H3⟩, ⟨%d4, H4⟩, ⟨%d5, H5⟩⟩
  rw [before_5 m c t h0]
  obtain rfl := hh h0
  iapply (body_B c (grid0.coords t) _ _ _ _ _ _ _ _ _ _ _ _ _ _ _ _ (fun h => h0 ((cond1_iff t).mp h)) ((cond2_iff t).mpr h1) (iblk m c 0 t) (iblk m c 1 t) (iblk m c 2 t) (iblk m c 3 t) (gBlk m c t.val) (hBlk m c t.val) dw Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨H0, H1, H2, H3, H4, H5, HS0, ⟨%e, %he, HS1⟩⟩
  isplitl [HS0 HS1 Hg]
  · isplitl [HS0 HS1]
    · isplitl [HS0]
      · iexists _; isplitr; swap; · iexact HS0
        ipureintro
        intro hn
        unfold hBlk
        rw [rowPt_succ t.val hn]
      iexists _; isplitr; swap; · iexact HS1
      ipureintro
      exact slabs_store m c t h1 dw e hw he.1 he.2
    iexact Hg
  isplitl [Ho]; · iexact Ho
  isplitl [H0]; · iexact H0
  isplitl [H1]; · iexact H1
  isplitl [H2]; · iexact H2
  isplitl [H3]; · iexact H3
  isplitl [H4]
  · have e1 : hBlk m c t.val = hBlk m c t.val := by rfl
    have e2 : wSlab m c t.val = k0_pay4 (iblk m c 2 t) := by unfold wSlab; rw [colPt_self t h1]
    unfold zBlk
    rw [e1, e2]
    iexact H4
  iapply (leaves_5 m c t)
  iexact H5

set_option maxHeartbeats 3200000 in
theorem sound_C (c : Dev nD) (t : Fin cfg0.N) (h0 : t.val % 12 = 0) (h1 : ¬t.val < 12) :
    bodyPre m c t ⊢ wp frame (wpE (defs₀ (F := F)) Variants.none c none) Set.univ (bodyAt0 t) (fun _ => bodyPost m c t) := by
  have hN : t.val < 96 := lt_of_lt_of_eq t.isLt (show cfg0.N = 96 from N_0)
  unfold bodyPre bodyPost bodyAt0
  simp only [before_0, before_1, before_2, before_3, leaves_0, leaves_1, leaves_2, leaves_3, leaves_4]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  iintro ⟨⟨⟨⟨%dh, %hh, HS0⟩, ⟨%dw, %hw, HS1⟩⟩, Hg⟩, Ho, ⟨%d0, H0⟩, ⟨%d1, H1⟩, ⟨%d2, H2⟩, ⟨%d3, H3⟩, ⟨%d4, H4⟩, ⟨%d5, H5⟩⟩
  iapply (body_C c (grid0.coords t) _ _ _ _ _ _ _ _ _ _ _ _ _ _ _ _ ((cond1_iff t).mpr h0) (fun h => h1 ((cond2_iff t).mp h)) (iblk m c 0 t) (iblk m c 1 t) (iblk m c 2 t) (iblk m c 3 t) ((dats m 0 c).before 5 t d5) dh dw Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexists _; isplitr; swap; · iexact HS0
        ipureintro
        intro hn
        unfold hBlk
        rw [rowPt_succ t.val hn]
        rw [rowPt_self t h0]
      iexists _; isplitr; swap; · iexact HS1
      ipureintro
      exact slabs_mono m c t.val (by omega) dw hw
    iexact Hg
  isplitl [Ho]; · iexact Ho
  isplitl [H0]; · iexact H0
  isplitl [H1]; · iexact H1
  isplitl [H2]; · iexact H2
  isplitl [H3]; · iexact H3
  isplitl [H4]
  · have e1 : hBlk m c t.val = k0_pay2 (iblk m c 0 t) (iblk m c 1 t) := by unfold hBlk; rw [rowPt_self t h0]
    have e2 : wSlab m c t.val = ld dw (slab (grid0.coords t)) := by exact (hw t (by omega)).symm
    unfold zBlk
    rw [e1, e2]
    iexact H4
  iapply (leaves_5 m c t)
  have e5 : gBlk m c t.val = k0_pay3 (iblk m c 0 t) (iblk m c 1 t) (iblk m c 3 t) := by unfold gBlk; rw [rowPt_self t h0]
  rw [e5]
  iexact H5

set_option maxHeartbeats 3200000 in
theorem sound_D (c : Dev nD) (t : Fin cfg0.N) (h0 : ¬t.val % 12 = 0) (h1 : ¬t.val < 12) :
    bodyPre m c t ⊢ wp frame (wpE (defs₀ (F := F)) Variants.none c none) Set.univ (bodyAt0 t) (fun _ => bodyPost m c t) := by
  have hN : t.val < 96 := lt_of_lt_of_eq t.isLt (show cfg0.N = 96 from N_0)
  unfold bodyPre bodyPost bodyAt0
  simp only [before_0, before_1, before_2, before_3, leaves_0, leaves_1, leaves_2, leaves_3, leaves_4]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  iintro ⟨⟨⟨⟨%dh, %hh, HS0⟩, ⟨%dw, %hw, HS1⟩⟩, Hg⟩, Ho, ⟨%d0, H0⟩, ⟨%d1, H1⟩, ⟨%d2, H2⟩, ⟨%d3, H3⟩, ⟨%d4, H4⟩, ⟨%d5, H5⟩⟩
  rw [before_5 m c t h0]
  obtain rfl := hh h0
  iapply (body_D c (grid0.coords t) _ _ _ _ _ _ _ _ _ _ _ _ _ _ _ _ (fun h => h0 ((cond1_iff t).mp h)) (fun h => h1 ((cond2_iff t).mp h)) (iblk m c 0 t) (iblk m c 1 t) (iblk m c 2 t) (iblk m c 3 t) (gBlk m c t.val) (hBlk m c t.val) dw Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexists _; isplitr; swap; · iexact HS0
        ipureintro
        intro hn
        unfold hBlk
        rw [rowPt_succ t.val hn]
      iexists _; isplitr; swap; · iexact HS1
      ipureintro
      exact slabs_mono m c t.val (by omega) dw hw
    iexact Hg
  isplitl [Ho]; · iexact Ho
  isplitl [H0]; · iexact H0
  isplitl [H1]; · iexact H1
  isplitl [H2]; · iexact H2
  isplitl [H3]; · iexact H3
  isplitl [H4]
  · have e1 : hBlk m c t.val = hBlk m c t.val := by rfl
    have e2 : wSlab m c t.val = ld dw (slab (grid0.coords t)) := by exact (hw t (by omega)).symm
    unfold zBlk
    rw [e1, e2]
    iexact H4
  iapply (leaves_5 m c t)
  iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · by_cases h1 : t.val < 12
    · exact sound_A m c t h0 h1
    · exact sound_C m c t h0 h1
  · by_cases h1 : t.val < 12
    · exact sound_B m c t h0 h1
    · exact sound_D m c t h0 h1

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : (Pipeline.ΦA spec0 c : sProp 𝕄) ⊢ (dats m 0 c).Φ 0 := by
  rw [show (dats m 0 c).Φ 0 = Inv m c 0 from rfl, scoped_eq]
  unfold Inv
  iintro ⟨⟨⟨%d, H0⟩, ⟨%e, H1⟩⟩, Hg⟩
  isplitl [H0 H1]
  · isplitl [H0]
    · iexists _; isplitr; swap; · iexact H0
      ipureintro; intro h; exact absurd rfl h
    iexists _; isplitr; swap; · iexact H1
    ipureintro; intro u hu; exact absurd hu (Nat.not_lt_zero _)
  iexact Hg

theorem hout (c : Dev nD) : (dats m 0 c).Φ (Fin.last cfg0.N) ⊢ (Pipeline.ΦA spec0 c : sProp 𝕄) := by
  rw [show (dats m 0 c).Φ (Fin.last cfg0.N) = Inv m c cfg0.N from rfl, scoped_eq]
  unfold Inv
  iintro ⟨⟨⟨%d, %hd, H0⟩, ⟨%e, %he, H1⟩⟩, Hg⟩
  isplitl [H0 H1]
  · isplitl [H0]
    · iexists _; iexact H0
    iexists _; iexact H1
  iexact Hg

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_quiet m ρ)

theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_post m ρ)

/-- The arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (kept m ρ) ((θ_run defs _ _).mono (fun _ h => h.2) (run_quiet m ρ))

end Cert.OddInprojIdeal.Tracked

end
-- ==== Proof.RowNorm.lean ====
module

public import Idealize.ShloMosaic.Lib.Pointwise
public import Idealize.ShloMosaic.Lib.IdealHost
public import Idealize.ShloMosaic.Lib.Pipeline.Value

/-! A row divided by its root mean square, and the gated product of a feed-forward layer: what both programs of a call compute,
    written over rows of extended reals. -/

@[expose] public section

noncomputable section

namespace Cert.RowNorm

open Idealize.ShloMosaic Idealize.ShloMosaic.Pointwise

/-- The mean of a row's squares, plus the constant that keeps the root away from zero. -/
def meanSq (x : Fin 2048 → EReal) : EReal :=
  Ideal.div (∑ k : Fin 2048, x k * x k) (Ideal.ofBits .f32 0x45000000#32) + Ideal.ofBits .f32 0x358637BD#32

/-- One element of a row divided by the row's root mean square and scaled. -/
def rowNorm (x g : Fin 2048 → EReal) (k : Fin 2048) : EReal := x k * Ideal.rsqrt (meanSq x) * g k

end Cert.RowNorm

namespace Cert.SwiGlu

/-- Two indices of rank four with equal coordinates are one. -/
theorem idx_ext₄ {n : Fin 4 → ℕ} {x y : (a : Fin 4) → Fin (n a)} (h0 : (x 0 : ℕ) = y 0) (h1 : (x 1 : ℕ) = y 1)
    (h2 : (x 2 : ℕ) = y 2) (h3 : (x 3 : ℕ) = y 3) : x = y :=
  funext fun a => Fin.ext (match a with | 0 => h0 | 1 => h1 | 2 => h2 | 3 => h3)

open Idealize.ShloMosaic Cert.RowNorm

/-- The factor on a feed-forward layer's result. -/
def half : EReal := Ideal.ofBits .f32 0x3F000000#32

theorem half_eq : half = (((1 : ℝ) / 2 : ℝ) : EReal) := by
  unfold half
  simp [Ideal.ofBits, Ideal.ieee, -EReal.coe_mul]; norm_num

theorem half_nonneg : 0 ≤ half := by
  rw [half_eq]; exact EReal.coe_nonneg.mpr (by norm_num)

theorem half_ne_top : half ≠ ⊤ := by
  rw [half_eq]; exact EReal.coe_ne_top _

/-- The factor on a sum is the sum of the factor on each term: it is finite and not negative. -/
theorem half_sum {ι : Type} (s : Finset ι) (f : ι → EReal) : half * ∑ j ∈ s, f j = ∑ j ∈ s, half * f j := by
  classical
  induction s using Finset.induction_on with
  | empty => simp
  | insert a s ha ih =>
    rw [Finset.sum_insert ha, Finset.sum_insert ha, EReal.left_distrib_of_nonneg_of_ne_top half_nonneg half_ne_top, ih]

/-- One hidden element: the first product through `a · logistic a`, times the second. -/
def gate (h w1 w3 : Fin 2048 → EReal) : EReal :=
  (∑ k : Fin 2048, h k * w1 k) * Ideal.logistic (∑ k : Fin 2048, h k * w1 k) * ∑ k : Fin 2048, h k * w3 k

/-- One hidden element of a row of the layer, weighted for one output column. -/
def hid (x g : Fin 2048 → EReal) (w1 w3 : Fin 2048 → Fin 5632 → EReal) (w2 : Fin 5632 → EReal) (q : Fin 5632) : EReal :=
  gate (rowNorm x g) (fun k => w1 k q) (fun k => w3 k q) * w2 q

/-- One element of the layer: the input's element plus half the weighted sum of the hidden row. -/
def ffn (x g : Fin 2048 → EReal) (w1 w3 : Fin 2048 → Fin 5632 → EReal) (w2 : Fin 5632 → Fin 2048 → EReal) (n : Fin 2048) : EReal :=
  x n + half * ∑ q : Fin 5632, hid x g w1 w3 (fun q => w2 q n) q

/-- The hidden positions of block `j`. -/
abbrev pos (j : ℕ) (hj : j < 22) (t : Fin 256) : Fin 5632 := ⟨j * 256 + t.val, by omega⟩

/-- The first `n` blocks' contribution, each block multiplied by the factor on its own. -/
def upTo (f : Fin 5632 → EReal) : (n : ℕ) → n ≤ 22 → EReal
  | 0, _ => 0
  | n + 1, h => upTo f n (Nat.le_of_succ_le h) + half * ∑ t : Fin 256, f (pos n h t)

theorem upTo_eq (f : Fin 5632 → EReal) : ∀ (n : ℕ) (h : n ≤ 22),
    upTo f n h = ∑ j : Fin n, half * ∑ t : Fin 256, f (pos j.val (lt_of_lt_of_le j.isLt h) t)
  | 0, _ => by simp [upTo]
  | n + 1, h => by
    rw [upTo, upTo_eq f n]
    exact (Fin.sum_univ_castSucc (fun j : Fin (n + 1) => half * ∑ t : Fin 256, f (pos j.val (lt_of_lt_of_le j.isLt h) t))).symm

/-- All blocks' contributions, added one by one, are the factor on the whole sum. -/
theorem upTo_all (f : Fin 5632 → EReal) : upTo f 22 le_rfl = half * ∑ q : Fin 5632, f q := by
  rw [upTo_eq, Fin.sum_univ_tiles 22 256 rfl f, half_sum]

end Cert.SwiGlu

end
-- ==== Proof.InprojPure.lean ====
module

public import proofs.«01_k».proof.Proof.Gen.OddInprojIdeal.Skeleton
public import proofs.«01_k».proof.Proof.Gen.OddInprojRefIdeal.Read
public import proofs.«01_k».proof.Proof.RowNorm

@[expose] public section

set_option maxRecDepth 16384

noncomputable section

namespace Cert.OddInprojIdeal.Tracked

open Cert.OddInprojIdeal Cert.OddInprojIdeal.Gen Cert.RowNorm Idealize.ShloMosaic Idealize.ShloMosaic.Pointwise

theorem pay1_apply (x : Vec Ideal S1024x2048 .f32) (g : Vec Ideal S1x2048 .f32) (r : Fin 1024) (k : Fin 2048) :
    k0_pay1 (F := Ideal) x g (ix2 r k) = rowNorm (fun k => x (ix2 r k)) (fun k => g (ix2 0 k)) k := by
  pointwise [k0_pay1, rowNorm, meanSq]

theorem pay3_apply (x : Vec Ideal S1024x2048 .f32) (g : Vec Ideal S1x2048 .f32) (w : Vec Ideal S128x2048 .bf16) (r : Fin 1024) (n : Fin 128) :
    k0_pay3 (F := Ideal) x g w (ix2 r n)
      = ∑ k : Fin 2048, rowNorm (fun k => x (ix2 r k)) (fun k => g (ix2 0 k)) k * w (ix2 n k) := by
  pointwise [k0_pay3, pay1_apply]

theorem pay5_apply (h : Vec Ideal S1024x2048 .bf16) (w : Vec Ideal S1x512x2048 .bf16) (r : Fin 1024) (n : Fin 512) :
    k0_pay5 (F := Ideal) h w (ix2 r n) = ∑ k : Fin 2048, h (ix2 r k) * w (ix3 0 n k) := by
  pointwise [k0_pay5]

theorem pay2_apply (x : Vec Ideal S1024x2048 .f32) (g : Vec Ideal S1x2048 .f32) (r : Fin 1024) (k : Fin 2048) :
    k0_pay2 (F := Ideal) x g (ix2 r k) = rowNorm (fun k => x (ix2 r k)) (fun k => g (ix2 0 k)) k := by
  pointwise [k0_pay2, pay1_apply]

theorem pay4_apply (w : Vec Ideal S512x2048 .f32) (n : Fin 512) (k : Fin 2048) :
    k0_pay4 (F := Ideal) w (ix3 0 n k) = w (ix2 n k) := by
  pointwise [k0_pay4]

end Cert.OddInprojIdeal.Tracked

namespace Cert.OddInprojRefIdeal.Read

open Cert.OddInprojRefIdeal Cert.OddInprojRefIdeal.Gen Cert.RowNorm Idealize.ShloMosaic Idealize.ShloMosaic.Pointwise

theorem v12_at (x0 : (⟨S8192x2048, .f32⟩ : BufTy).Contents (Elt Ideal)) (x1 : (⟨S2048, .f32⟩ : BufTy).Contents (Elt Ideal))
    (r : Fin 8192) (k : Fin 2048) :
    val_main_v12 (F := Ideal) x0 x1 (ix2 r k) = rowNorm (fun k => x0 (ix2 r k)) (fun k => x1 (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, rowNorm, meanSq]

theorem v13_at (x0 : (⟨S8192x2048, .f32⟩ : BufTy).Contents (Elt Ideal)) (x1 : (⟨S2048, .f32⟩ : BufTy).Contents (Elt Ideal))
    (x2 : (⟨S2048x6152, .f32⟩ : BufTy).Contents (Elt Ideal)) (r : Fin 8192) (n : Fin 6152) :
    val_main_v13 (F := Ideal) x0 x1 x2 (ix2 r n)
      = ∑ k : Fin 2048, rowNorm (fun k => x0 (ix2 r k)) (fun k => x1 (ix1 k)) k * x2 (ix2 k n) := by
  pointwise [val_main_v13, v12_at]

theorem v19_at (x0 : (⟨S8192x2048, .f32⟩ : BufTy).Contents (Elt Ideal)) (x1 : (⟨S2048, .f32⟩ : BufTy).Contents (Elt Ideal))
    (x2 : (⟨S2048x6152, .f32⟩ : BufTy).Contents (Elt Ideal)) (r : Fin 8192) (n : Fin 6144) :
    val_main_v19 (F := Ideal) x0 x1 x2 (ix2 r n)
      = val_main_v13 (F := Ideal) x0 x1 x2 (ix2 r ⟨if n.val < 3072 then n.val else n.val + 8, by split <;> omega⟩) := by
  pointwise [val_main_v19, val_main_v16, val_main_v15, val_main_v14]
  split
  · next h => rfl
  · next h =>
    refine congrArg _ (congrArg _ (Fin.ext ?_))
    have h' : ¬ n.val < 3072 := h
    show 3080 + (n.val - 3072) = n.val + 8
    omega

theorem sitofp_zero : (FloatOps.sitofp FTy.f32 (0#32) : Ideal .f32) = 0 := by
  show (((0#32 : BitVec 32).toInt : ℝ) : EReal) = 0
  simp

theorem v18_at (x0 : (⟨S8192x2048, .f32⟩ : BufTy).Contents (Elt Ideal)) (x1 : (⟨S2048, .f32⟩ : BufTy).Contents (Elt Ideal))
    (x2 : (⟨S2048x6152, .f32⟩ : BufTy).Contents (Elt Ideal)) (r : Fin 8192) (n : Fin 128) :
    val_main_v18 (F := Ideal) x0 x1 x2 (ix2 r n)
      = if h : n.val < 8 then val_main_v13 (F := Ideal) x0 x1 x2 (ix2 r ⟨3072 + n.val, by omega⟩) else 0 := by
  pointwise [val_main_v18, val_main_v17, val_main_call0_v0, val_main_c]
  rw [show (FloatOps.sitofp FTy.f32 (0#32) : Ideal .f32) = 0 from sitofp_zero]

end Cert.OddInprojRefIdeal.Read

end
-- ==== Proof.InprojValue.lean ====
module

public import proofs.«01_k».proof.Proof.InprojRun
public import proofs.«01_k».proof.Proof.InprojPure
public import Idealize.ShloMosaic.Lib.Pipeline.Value

/-! The two results of the input projection, read at an index: the projected rows block by block, and the gate columns
with the rows of zeros appended to their weights. -/

@[expose] public section

set_option maxRecDepth 16384

noncomputable section

namespace Cert.OddInprojIdeal.Tracked

open Cert.OddInprojIdeal Cert.OddInprojIdeal.Gen Cert.RowNorm
open Idealize.ShloMosaic Idealize.ShloMosaic.TcCoe Idealize.ShloMosaic.Pointwise
open Idealize.SL.Sem
open Idealize.ShloMosaic.Pipeline (Dat)

variable (m : (ℓ : Loc nD τ sig) → Buf (Elt Ideal) ℓ) (ρ : Dev nD → PrngReg)

/-- The three arguments of one device. -/
abbrev xIn (c : Dev nD) : Vec Ideal S8192x2048 .f32 := m ((c : Thread nD τ).loc main_arg0)
abbrev gIn (c : Dev nD) : Vec Ideal S2048 .f32 := m ((c : Thread nD τ).loc main_arg1)
abbrev wIn (c : Dev nD) : Vec Ideal S2048x6152 .f32 := m ((c : Thread nD τ).loc main_arg2)

/-! ## What the host prepares -/

theorem V_v0 (c : Dev nD) (n : Fin 6152) (k : Fin 2048) :
    (V m c main_v0 : Vec Ideal S6152x2048 .f32) (ix2 n k) = wIn m c (ix2 k n) := by
  have e : (V m c main_v0 : Vec Ideal S6152x2048 .f32) = transpose S6152x2048 [1, 0] (wIn m c) transposes_S2048x6152_S6152x2048_1_0 := by
    simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results
  rw [e]
  pointwise

theorem V_v4 (c : Dev nD) (k : Fin 2048) :
    (V m c main_v4 : Vec Ideal S1x2048 .f32) (ix2 0 k) = gIn m c (ix1 k) := by
  have e : (V m c main_v4 : Vec Ideal S1x2048 .f32) = shapeCast S1x2048 (gIn m c) shapeCasts_S2048_S1x2048 := by
    simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results
    rfl
  rw [e]
  pointwise

theorem V_v3 (c : Dev nD) (n : Fin 128) (k : Fin 2048) :
    (V m c main_v3 : Vec Ideal S128x2048 .bf16) (ix2 n k)
      = if h : n.val < 8 then wIn m c (ix2 k ⟨3072 + n.val, by omega⟩) else 0 := by
  have e : (V m c main_v3 : Vec Ideal S128x2048 .bf16) = truncf .bf16 (pad S128x2048 ![0, 0] ![120, 0] ![0, 0]
      (extractStridedSlice S8x2048 ![3072, 0] (transpose S6152x2048 [1, 0] (wIn m c) transposes_S2048x6152_S6152x2048_1_0) slices_S6152x2048_S8x2048_3072_0)
      (sitofp .f32 (constantI S_ 32 0#32) : FVec Ideal S_ .f32) pads_S8x2048_S128x2048_01200_000 h_S_ : FVec Ideal S128x2048 .f32) bitsLt_bf16_f32 := by
    simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results
  rw [e]
  pointwise
  rw [Cert.OddInprojRefIdeal.Read.sitofp_zero]

/-! ## The blocks the body reads -/

theorem index0 : ∀ t : Fin cfg0.N, win0_0.index t 0 * win0_0.size 0 = t.val / 12 * 1024 ∧ win0_0.index t 1 * win0_0.size 1 = 0 :=
  (by decide +kernel : ∀ t : Fin grid0.N, win0_0.index t 0 * win0_0.size 0 = t.val / 12 * 1024 ∧ win0_0.index t 1 * win0_0.size 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, t.val < 12 → win0_2.index t 0 = (if t.val < 6 then 512 * t.val else 512 * t.val + 8) ∧ win0_2.index t 1 = 0 :=
  (by decide +kernel : ∀ t : Fin grid0.N, t.val < 12 → win0_2.index t 0 = (if t.val < 6 then 512 * t.val else 512 * t.val + 8) ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)

theorem point_lt (t : Fin cfg0.N) : t.val < 96 := by have h := t.isLt; have hN : cfg0.N = 96 := N_0; omega

theorem iblk0_apply (c : Dev nD) (t : Fin cfg0.N) (r : Fin 1024) (k : Fin 2048) :
    (iblk m c 0 t : Vec Ideal S1024x2048 .f32) (ix2 r k)
      = xIn m c (ix2 ⟨t.val / 12 * 1024 + r.val, by have := point_lt t; omega⟩ k) := by
  have e : (iblk m c 0 t : Vec Ideal S1024x2048 .f32) (ix2 r k) = V m c main_arg0 ((win0_0.rect t).emb (ix2 r k)) := rfl
  rw [e, V_main_arg0]
  refine congrArg (xIn m c) (Shape.idx_ext₂ ?_ ?_)
  · refine (win0_0.rect_emb_val t _ 0).trans ?_
    rw [(index0 t).1]; rfl
  · refine (win0_0.rect_emb_val t _ 1).trans ?_
    rw [(index0 t).2]; exact Nat.zero_add _

theorem iblk1_apply (c : Dev nD) (t : Fin cfg0.N) (k : Fin 2048) :
    (iblk m c 1 t : Vec Ideal S1x2048 .f32) (ix2 0 k) = gIn m c (ix1 k) := by
  have e : (iblk m c 1 t : Vec Ideal S1x2048 .f32) (ix2 0 k) = V m c main_v4 ((win0_1.rect t).emb (ix2 0 k)) := rfl
  rw [e, ← V_v4 m c k]
  refine congrArg (V m c main_v4 : Vec Ideal S1x2048 .f32) (Shape.idx_ext₂ ?_ ?_)
  · exact win0_1.rect_emb_val_of_index_zero t 0 (index1 t).1 _
  · exact win0_1.rect_emb_val_of_index_zero t 1 (index1 t).2 _

theorem iblk2_apply (c : Dev nD) (t : Fin cfg0.N) (ht : t.val < 12) (n : Fin 512) (k : Fin 2048) :
    (iblk m c 2 t : Vec Ideal S512x2048 .f32) (ix2 n k)
      = wIn m c (ix2 k ⟨if 512 * t.val + n.val < 3072 then 512 * t.val + n.val else 512 * t.val + n.val + 8, by split <;> omega⟩) := by
  have e : (iblk m c 2 t : Vec Ideal S512x2048 .f32) (ix2 n k) = V m c main_v0 ((win0_2.rect t).emb (ix2 n k)) := rfl
  rw [e, ← V_v0 m c _ k]
  refine congrArg (V m c main_v0 : Vec Ideal S6152x2048 .f32) (Shape.idx_ext₂ ?_ ?_)
  · refine (win0_2.rect_emb_val_off t _ 0).trans ?_
    show win0_2.index t 0 + n.val = if 512 * t.val + n.val < 3072 then 512 * t.val + n.val else 512 * t.val + n.val + 8
    rw [(index2 t ht).1]
    split <;> split <;> omega
  · exact win0_2.rect_emb_val_of_index_zero t 1 (index2 t ht).2 _

theorem iblk3_apply (c : Dev nD) (t : Fin cfg0.N) (n : Fin 128) (k : Fin 2048) :
    (iblk m c 3 t : Vec Ideal S128x2048 .bf16) (ix2 n k)
      = if h : n.val < 8 then wIn m c (ix2 k ⟨3072 + n.val, by omega⟩) else 0 := by
  have e : (iblk m c 3 t : Vec Ideal S128x2048 .bf16) (ix2 n k) = V m c main_v3 ((win0_3.rect t).emb (ix2 n k)) := rfl
  rw [e, ← V_v3 m c n k]
  refine congrArg (V m c main_v3 : Vec Ideal S128x2048 .bf16) (Shape.idx_ext₂ ?_ ?_)
  · exact win0_3.rect_emb_val_of_index_zero t 0 (index3 t).1 _
  · exact win0_3.rect_emb_val_of_index_zero t 1 (index3 t).2 _

/-! ## The two results -/

/-- The reference's own terms at this device's arguments. -/
abbrev resZ (c : Dev nD) : Vec Ideal S8192x6144 .bf16 := Cert.OddInprojRefIdeal.Read.val_main_v19 (F := Ideal) (xIn m c) (gIn m c) (wIn m c)
abbrev resG (c : Dev nD) : Vec Ideal S8192x128 .f32 := Cert.OddInprojRefIdeal.Read.val_main_v18 (F := Ideal) (xIn m c) (gIn m c) (wIn m c)

theorem rowPt_div (t : Fin cfg0.N) : (rowPt t.val).val / 12 = t.val / 12 := by
  have := point_lt t
  show (t.val / 12 * 12 % 96) / 12 = t.val / 12
  omega

theorem row_eq (c : Dev nD) (t : Fin cfg0.N) (r : Fin 1024) :
    (fun k => (iblk m c 0 (rowPt t.val) : Vec Ideal S1024x2048 .f32) (ix2 r k))
      = fun k : Fin 2048 => xIn m c (ix2 ⟨t.val / 12 * 1024 + r.val, by have := point_lt t; omega⟩ k) :=
  funext fun k => (iblk0_apply m c (rowPt t.val) r k).trans
    (congrArg (xIn m c) (Shape.idx_ext₂ (by show (rowPt t.val).val / 12 * 1024 + r.val = t.val / 12 * 1024 + r.val; rw [rowPt_div]) rfl))

theorem scale_eq (c : Dev nD) (t : Fin cfg0.N) :
    (fun k => (iblk m c 1 t : Vec Ideal S1x2048 .f32) (ix2 0 k)) = fun k : Fin 2048 => gIn m c (ix1 k) :=
  funext fun k => iblk1_apply m c t k

theorem z_at (c : Dev nD) (t : Fin cfg0.N) (r : Fin 1024) (n : Fin 512) :
    zBlk m c t.val (ix2 r n)
      = resZ m c (ix2 ⟨t.val / 12 * 1024 + r.val, by have := point_lt t; omega⟩ ⟨t.val % 12 * 512 + n.val, by omega⟩) := by
  unfold zBlk hBlk wSlab
  rw [pay5_apply, resZ, Cert.OddInprojRefIdeal.Read.v19_at, Cert.OddInprojRefIdeal.Read.v13_at]
  refine Finset.sum_congr rfl fun k _ => ?_
  rw [pay2_apply, pay4_apply, row_eq m c t r, scale_eq]
  refine congrArg _ ((iblk2_apply m c (colPt t.val) (Nat.mod_lt _ (by decide)) n k).trans (congrArg (wIn m c) (Shape.idx_ext₂ rfl ?_)))
  show (if 512 * (t.val % 12) + n.val < 3072 then 512 * (t.val % 12) + n.val else 512 * (t.val % 12) + n.val + 8)
    = if t.val % 12 * 512 + n.val < 3072 then t.val % 12 * 512 + n.val else t.val % 12 * 512 + n.val + 8
  rw [Nat.mul_comm]

theorem g_at (c : Dev nD) (t : Fin cfg0.N) (r : Fin 1024) (n : Fin 128) :
    gBlk m c t.val (ix2 r n) = resG m c (ix2 ⟨t.val / 12 * 1024 + r.val, by have := point_lt t; omega⟩ n) := by
  unfold gBlk
  rw [pay3_apply, resG, Cert.OddInprojRefIdeal.Read.v18_at, row_eq m c t r, scale_eq]
  simp only [iblk3_apply]
  split
  · next h =>
    rw [Cert.OddInprojRefIdeal.Read.v13_at]
  · next h => simp only [mul_zero, Finset.sum_const_zero]

theorem index4 : ∀ t : Fin cfg0.N, win0_4.index t 0 * win0_4.size 0 = t.val / 12 * 1024 ∧ win0_4.index t 1 * win0_4.size 1 = t.val % 12 * 512 :=
  (by decide +kernel : ∀ t : Fin grid0.N, win0_4.index t 0 * win0_4.size 0 = t.val / 12 * 1024 ∧ win0_4.index t 1 * win0_4.size 1 = t.val % 12 * 512)
theorem index5 : ∀ t : Fin cfg0.N, win0_5.index t 0 * win0_5.size 0 = t.val / 12 * 1024 ∧ win0_5.index t 1 * win0_5.size 1 = 0 :=
  (by decide +kernel : ∀ t : Fin grid0.N, win0_5.index t 0 * win0_5.size 0 = t.val / 12 * 1024 ∧ win0_5.index t 1 * win0_5.size 1 = 0)

theorem flushed_4 (c : Dev nD) (t : Fin cfg0.N) :
    (dats m 0 c).flushed 4 t = ((cfg0.win 4).blk t).view.read (Elt Ideal) (resZ m c) := by
  show (cfg0.win 4).cut (grid0.coords t) ((dats m 0 c).after 4 t) = _
  rw [after_4]
  funext j
  show zBlk m c t.val j = resZ m c ((win0_4.rect t).emb j)
  refine (congrArg (zBlk m c t.val) (ValueIdx.eq_ix2 (n0 := 1024) (n1 := 512) j)).trans ((z_at m c t (j 0) (j 1)).trans (congrArg (resZ m c) (Shape.idx_ext₂ ?_ ?_)))
  · refine Eq.trans ?_ (win0_4.rect_emb_val t _ 0).symm
    rw [(index4 t).1]; rfl
  · refine Eq.trans ?_ (win0_4.rect_emb_val t _ 1).symm
    rw [(index4 t).2]; rfl

theorem flushed_5 (c : Dev nD) (t : Fin cfg0.N) :
    (dats m 0 c).flushed 5 t = ((cfg0.win 5).blk t).view.read (Elt Ideal) (resG m c) := by
  show (cfg0.win 5).cut (grid0.coords t) ((dats m 0 c).after 5 t) = _
  rw [after_5]
  funext j
  show gBlk m c t.val j = resG m c ((win0_5.rect t).emb j)
  refine (congrArg (gBlk m c t.val) (ValueIdx.eq_ix2 (n0 := 1024) (n1 := 128) j)).trans ((g_at m c t (j 0) (j 1)).trans (congrArg (resG m c) (Shape.idx_ext₂ ?_ ?_)))
  · refine Eq.trans ?_ (win0_5.rect_emb_val t _ 0).symm
    rw [(index5 t).1]; rfl
  · refine Eq.trans ?_ (win0_5.rect_emb_val t _ 1).symm
    rw [(index5 t).2]; exact (Nat.zero_add _).symm

theorem cover_4 (i : S8192x6144.Idx) : ∃ t : Fin cfg0.N, (cfg0.win 4).flush t = true ∧ i ∈ ((cfg0.win 4).blk t).view.set := by
  have h0 : (i 0 : Nat) < 8192 := (i 0).isLt
  have h1 : (i 1 : Nat) < 6144 := (i 1).isLt
  have hN : cfg0.N = 96 := N_0
  refine ⟨⟨(i 0 : Nat) / 1024 * 12 + (i 1 : Nat) / 512, by omega⟩, flush0_4 _, ?_⟩
  generalize ht : (⟨(i 0 : Nat) / 1024 * 12 + (i 1 : Nat) / 512, _⟩ : Fin cfg0.N) = t
  have hv : t.val = (i 0 : Nat) / 1024 * 12 + (i 1 : Nat) / 512 := by rw [← ht]
  show i ∈ ((View.whole main_v5_0).slice (win0_4.rect t)).set
  rw [View.set_slice_whole, Rect.mem_set_unit]
  intro a
  match a with
  | ⟨0, _⟩ =>
    show win0_4.index t 0 * win0_4.size 0 ≤ (i 0 : Nat) ∧ (i 0 : Nat) < win0_4.index t 0 * win0_4.size 0 + 1024
    rw [(index4 t).1]; omega
  | ⟨1, _⟩ =>
    show win0_4.index t 1 * win0_4.size 1 ≤ (i 1 : Nat) ∧ (i 1 : Nat) < win0_4.index t 1 * win0_4.size 1 + 512
    rw [(index4 t).2]; omega

theorem cover_5 (i : S8192x128.Idx) : ∃ t : Fin cfg0.N, (cfg0.win 5).flush t = true ∧ i ∈ ((cfg0.win 5).blk t).view.set := by
  have h0 : (i 0 : Nat) < 8192 := (i 0).isLt
  have h1 : (i 1 : Nat) < 128 := (i 1).isLt
  have hN : cfg0.N = 96 := N_0
  refine ⟨⟨(i 0 : Nat) / 1024 * 12 + 11, by omega⟩, (flush0_5 _).mpr (by show ((i 0 : Nat) / 1024 * 12 + 11) % 12 = 11; omega), ?_⟩
  generalize ht : (⟨(i 0 : Nat) / 1024 * 12 + 11, _⟩ : Fin cfg0.N) = t
  have hv : t.val = (i 0 : Nat) / 1024 * 12 + 11 := by rw [← ht]
  show i ∈ ((View.whole main_v5_1).slice (win0_5.rect t)).set
  rw [View.set_slice_whole, Rect.mem_set_unit]
  intro a
  match a with
  | ⟨0, _⟩ =>
    show win0_5.index t 0 * win0_5.size 0 ≤ (i 0 : Nat) ∧ (i 0 : Nat) < win0_5.index t 0 * win0_5.size 0 + 1024
    rw [(index5 t).1]; omega
  | ⟨1, _⟩ =>
    show win0_5.index t 1 * win0_5.size 1 ≤ (i 1 : Nat) ∧ (i 1 : Nat) < win0_5.index t 1 * win0_5.size 1 + 128
    rw [(index5 t).2]; omega

theorem final_4 (c : Dev nD) : (dats m 0 c).arrAt 4 cfg0.N = resZ m c :=
  (dats m 0 c).arrAt_eq_of_cover 4 (resZ m c) (fun t _ => flushed_4 m c t) cover_4

theorem final_5 (c : Dev nD) : (dats m 0 c).arrAt 5 cfg0.N = resG m c :=
  (dats m 0 c).arrAt_eq_of_cover 5 (resG m c) (fun t _ => flushed_5 m c t) cover_5

/-- The run with its results read: both are the reference's terms, and the arguments are kept. -/
theorem run : θ_run defs (onTc (τ := τ) (main (F := Ideal))) ⟨m, fun _ => 0, ρ⟩ fun r => ∀ c : Dev nD,
      r.2.mem ((c : Thread nD τ).loc main_v5_0) = resZ m c
      ∧ r.2.mem ((c : Thread nD τ).loc main_v5_1) = resG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 4).trans (final_4 m c), ((h.1 c).1 5).trans (final_5 m c), h.2 c⟩)
    (θ_run_and (run_post m ρ) (kept m ρ))

end Cert.OddInprojIdeal.Tracked

end
-- ==== Proof.InprojClaim.lean ====
module

public import proofs.«01_k».proof.Defs
public import proofs.«01_k».proof.Proof.InprojValue
public import proofs.«01_k».proof.Proof.Gen.OddInproj.Points
public import proofs.«01_k».proof.Proof.Gen.OddInprojRefIdeal.Run
public import Idealize.ShloMosaic.Lib.Quiescent

/-! The five claims of the input projection. -/

@[expose] public section

set_option maxRecDepth 16384

noncomputable section

namespace Cert.Proof

open Idealize.ShloMosaic Idealize.ShloMosaic.TcCoe Idealize.SL.Sem

/-- The program's label table over bits is the idealized one's: the two have the same text. -/
theorem defs_inproj : Cert.OddInproj.defs (F := Bits) = Cert.OddInprojIdeal.defs (F := Bits) := by
  refine congrArg (Pipeline.defs _) (congrArg Defs.onTc (funext fun l => ?_))
  match l with
  | 0 => exact funext fun ⟨t, s⟩ => rfl
  | ⟨n + 1, h⟩ => exact absurd h (by omega)

theorem quiescent_inproj : Cert.quiescent_OddInproj (hOddInproj := Cert.OddInproj.Gen.facts) :=
  by
  intro m ρ _
  rw [defs_inproj]
  exact Cert.OddInprojIdeal.Tracked.frame (F := Bits) m ρ

theorem quiescent_inprojIdeal : Cert.quiescent_OddInprojIdeal (hOddInprojIdeal := Cert.OddInprojIdeal.Gen.facts) :=
  fun m ρ _ => Cert.OddInprojIdeal.Tracked.frame m ρ

theorem quiescent_inprojRef : Cert.quiescent_OddInprojRefIdeal (hOddInprojRefIdeal := Cert.OddInprojRefIdeal.Gen.facts) :=
  fun m ρ _ => (θ_run Cert.OddInprojRefIdeal.defs _ _).mono
    (fun r h => ⟨fun c => (h c).2.2, sem_eq_zero_of_no_sems rfl r.2⟩) (Cert.OddInprojRefIdeal.Value.run m ρ)

theorem algebraic_inproj : Cert.algebraic_OddInprojIdeal_OddInprojRefIdeal
    (hOddInprojIdeal := Cert.OddInprojIdeal.Gen.facts) (hOddInprojRefIdeal := Cert.OddInprojRefIdeal.Gen.facts) :=
  fun m ρ m' ρ' _ hag => ⟨fun c => Cert.OddInprojIdeal.Tracked.resZ m c, fun c => Cert.OddInprojIdeal.Tracked.resG m c,
    Cert.OddInprojIdeal.Tracked.run m ρ,
    (θ_run Cert.OddInprojRefIdeal.defs _ _).mono
      (fun r h c => ⟨(h c).1.trans (by
          rw [(hag c).1, (hag c).2.1, (hag c).2.2]
          exact Cert.OddInprojRefIdeal.Read.val_main_v19_eq (F := Ideal) _ _ _),
        (h c).2.1.trans (by
          rw [(hag c).1, (hag c).2.1, (hag c).2.2]
          exact Cert.OddInprojRefIdeal.Read.val_main_v18_eq (F := Ideal) _ _ _),
        (h c).2.2⟩)
      (Cert.OddInprojRefIdeal.Value.run m' ρ')⟩

end Cert.Proof

end
-- ==== Proof.FfnCase.lean ====
module

public import proofs.«01_k».proof.Proof.Gen.FfnIdeal.Value
public import Idealize.ShloMosaic.Lib.VecWindow

/-! What each case of the feed-forward kernel's body leaves in the output's staging buffer and in the normalised rows' scratch,
    as payloads of what the case reads. -/

@[expose] public section

set_option maxRecDepth 16384

noncomputable section

namespace Cert.FfnIdeal.Fold

open Cert.FfnIdeal Cert.FfnIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem z2 : (![0, 0] : Fin 2 → Nat) = fun _ => 0 := funext fun a => by fin_cases a <;> rfl
theorem z4 : (![0, 0, 0, 0] : Fin 4 → Nat) = fun _ => 0 := funext fun a => by fin_cases a <;> rfl

theorem sout_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x256 .f32) (harg4 : arg4.IsWhole) (arg5 : Memref sig .tc .vmem S1x1x2048x256 .f32) (harg5 : arg5.IsWhole) (arg6 : Memref sig .tc .vmem S1x1x256x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i)
    (x0 : Vec F S1024x2048 .f32) (x1 : Vec F S1x2048 .f32) (x2 : Vec F S1x1x2048x256 .f32) (x3 : Vec F S1x1x2048x256 .f32) (x4 : Vec F S1x1x256x2048 .f32) (x5 : Vec F S1x2048 .f32) :
    sout0_A_0 c i arg2 harg2 arg3 harg3 arg4 harg4 arg5 harg5 arg6 harg6 arg7 harg7 arg8 harg8 arg9 harg9 hc0 x0 x1 x2 x3 x4 x5 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero (S := S1024x2048) z2]
  simp only [View.readAt_eq_ld, harg2.read_unread, harg3.read_unread, harg4.read_unread, harg5.read_unread, harg6.read_unread, harg7.read_unread, harg8.read_unread, harg9.read_unread, View.ld_unit_zero (S := S1024x2048) z2, View.ld_unit_zero (S := S1x2048) z2, View.ld_unit_zero (S := S1x1x2048x256) z4, View.ld_unit_zero (S := S1x1x256x2048) z4]

theorem out_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x256 .f32) (harg4 : arg4.IsWhole) (arg5 : Memref sig .tc .vmem S1x1x2048x256 .f32) (harg5 : arg5.IsWhole) (arg6 : Memref sig .tc .vmem S1x1x256x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i)
    (x0 : Vec F S1024x2048 .f32) (x1 : Vec F S1x2048 .f32) (x2 : Vec F S1x1x2048x256 .f32) (x3 : Vec F S1x1x2048x256 .f32) (x4 : Vec F S1x1x256x2048 .f32) (x5 : Vec F S1x2048 .f32) :
    out0_A_6 c i arg2 harg2 arg3 harg3 arg4 harg4 arg5 harg5 arg6 harg6 arg7 harg7 arg8 harg8 arg9 harg9 hc0 x0 x1 x2 x3 x4 x5 = k0_pay2 (k0_pay1 x0 x1) x2 x3 x0 x4 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1024x2048) z2]
  simp only [View.readCov_unit_zero (S := S1024x2048) _ z2]
  simp only [View.readAt_eq_ld, harg2.read_unread, harg3.read_unread, harg4.read_unread, harg5.read_unread, harg6.read_unread, harg7.read_unread, harg8.read_unread, harg9.read_unread, View.ld_unit_zero (S := S1024x2048) z2, View.ld_unit_zero (S := S1x2048) z2, View.ld_unit_zero (S := S1x1x2048x256) z4, View.ld_unit_zero (S := S1x1x256x2048) z4]

theorem out_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x256 .f32) (harg4 : arg4.IsWhole) (arg5 : Memref sig .tc .vmem S1x1x2048x256 .f32) (harg5 : arg5.IsWhole) (arg6 : Memref sig .tc .vmem S1x1x256x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i)
    (x0 : Vec F S1024x2048 .f32) (x1 : Vec F S1x2048 .f32) (x2 : Vec F S1x1x2048x256 .f32) (x3 : Vec F S1x1x2048x256 .f32) (x4 : Vec F S1x1x256x2048 .f32) (x5 : Vec F S1x2048 .f32) (xo : Vec F S1024x2048 .f32) (xs : Vec F S1024x2048 .bf16) :
    out0_B_6 c i arg2 harg2 arg3 harg3 arg4 harg4 arg5 harg5 arg6 harg6 arg7 harg7 arg8 harg8 arg9 harg9 hc0 x0 x1 x2 x3 x4 x5 xo xs = k0_pay2 xs x2 x3 xo x4 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xo xs)]
  unfold kernelRun0_B
  dsimp only
  rw [View.canon_unit_zero (S := S1024x2048) z2]
  simp only [View.readAt_eq_ld, harg2.read_unread, harg3.read_unread, harg4.read_unread, harg5.read_unread, harg6.read_unread, harg7.read_unread, harg8.read_unread, harg9.read_unread, View.ld_unit_zero (S := S1024x2048) z2, View.ld_unit_zero (S := S1x2048) z2, View.ld_unit_zero (S := S1x1x2048x256) z4, View.ld_unit_zero (S := S1x1x256x2048) z4]

theorem sout_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x256 .f32) (harg4 : arg4.IsWhole) (arg5 : Memref sig .tc .vmem S1x1x2048x256 .f32) (harg5 : arg5.IsWhole) (arg6 : Memref sig .tc .vmem S1x1x256x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i)
    (x0 : Vec F S1024x2048 .f32) (x1 : Vec F S1x2048 .f32) (x2 : Vec F S1x1x2048x256 .f32) (x3 : Vec F S1x1x2048x256 .f32) (x4 : Vec F S1x1x256x2048 .f32) (x5 : Vec F S1x2048 .f32) (xo : Vec F S1024x2048 .f32) (xs : Vec F S1024x2048 .bf16) :
    sout0_B_0 c i arg2 harg2 arg3 harg3 arg4 harg4 arg5 harg5 arg6 harg6 arg7 harg7 arg8 harg8 arg9 harg9 hc0 x0 x1 x2 x3 x4 x5 xo xs = xs := rfl

/-- A point where j = 0: the rows normalised, the rows themselves with the first block's product added. -/
theorem st_A (c : Dev nD) (t : Fin cfg0.N) (acc : Vec F S1024x2048 .f32 × Vec F S1024x2048 .bf16) (h0 : t.val % 22 = 0) :
    Value.stAt0 m c t.val t.isLt acc = ((k0_pay2 (k0_pay1 (iblk m c 0 t) (iblk m c 1 t)) (iblk m c 2 t) (iblk m c 3 t) (iblk m c 0 t) (iblk m c 4 t)), k0_pay1 (iblk m c 0 t) (iblk m c 1 t)) := by
  rw [Value.stAt0_A m c t acc h0]
  rw [out_A, sout_A]

/-- A point where 0 < j: the block's product added to what the point before left. -/
theorem st_B (c : Dev nD) (t : Fin cfg0.N) (acc : Vec F S1024x2048 .f32 × Vec F S1024x2048 .bf16) (h0 : ¬t.val % 22 = 0) :
    Value.stAt0 m c t.val t.isLt acc = ((k0_pay2 acc.2 (iblk m c 2 t) (iblk m c 3 t) acc.1 (iblk m c 4 t)), acc.2) := by
  rw [Value.stAt0_B m c t acc h0]
  rw [out_B, sout_B]

end Cert.FfnIdeal.Fold

end
-- ==== Proof.FfnPure.lean ====
module

public import proofs.«01_k».proof.Proof.Gen.FfnIdeal.Skeleton
public import proofs.«01_k».proof.Proof.Gen.FfnRefIdeal.Read
public import proofs.«01_k».proof.Proof.RowNorm

/-! The feed-forward kernel's payloads and its reference's stages, each at one index. -/

@[expose] public section

set_option maxRecDepth 16384

noncomputable section

namespace Cert.FfnIdeal.Fold

open Cert.FfnIdeal Cert.FfnIdeal.Gen Cert.RowNorm Cert.SwiGlu Idealize.ShloMosaic Idealize.ShloMosaic.Pointwise

theorem pay1_apply (x : Vec Ideal S1024x2048 .f32) (g : Vec Ideal S1x2048 .f32) (r : Fin 1024) (k : Fin 2048) :
    k0_pay1 (F := Ideal) x g (ix2 r k) = rowNorm (fun k => x (ix2 r k)) (fun k => g (ix2 0 k)) k := by
  pointwise [k0_pay1, rowNorm, meanSq]

theorem pay2_apply (h : Vec Ideal S1024x2048 .bf16) (w1 w3 : Vec Ideal S1x1x2048x256 .f32) (o : Vec Ideal S1024x2048 .f32)
    (w2 : Vec Ideal S1x1x256x2048 .f32) (r : Fin 1024) (n : Fin 2048) :
    k0_pay2 (F := Ideal) h w1 w3 o w2 (ix2 r n)
      = o (ix2 r n) + half * ∑ t : Fin 256, gate (fun k => h (ix2 r k)) (fun k => w1 (ix4 0 0 k t)) (fun k => w3 (ix4 0 0 k t)) * w2 (ix4 0 0 t n) := by
  pointwise [k0_pay2, gate, half]

end Cert.FfnIdeal.Fold

namespace Cert.FfnRefIdeal.Read

open Cert.FfnRefIdeal Cert.FfnRefIdeal.Gen Cert.RowNorm Cert.SwiGlu Idealize.ShloMosaic Idealize.ShloMosaic.Pointwise

theorem v14_at (x0 : (⟨S8192x2048, .f32⟩ : BufTy).Contents (Elt Ideal)) (x1 : (⟨S2x2x2048, .f32⟩ : BufTy).Contents (Elt Ideal))
    (r : Fin 8192) (k : Fin 2048) :
    val_main_v14 (F := Ideal) x0 x1 (ix2 r k) = rowNorm (fun k => x0 (ix2 r k)) (fun k => x1 (ix3 0 0 k)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rowNorm, meanSq]

theorem v21_at (x0 : (⟨S8192x2048, .f32⟩ : BufTy).Contents (Elt Ideal)) (x1 : (⟨S2x2x2048, .f32⟩ : BufTy).Contents (Elt Ideal))
    (x2 : (⟨S2x2x2048x5632, .f32⟩ : BufTy).Contents (Elt Ideal)) (r : Fin 8192) (q : Fin 5632) :
    val_main_v21 (F := Ideal) x0 x1 x2 (ix2 r q)
      = ∑ k : Fin 2048, rowNorm (fun k => x0 (ix2 r k)) (fun k => x1 (ix3 0 0 k)) k * x2 (ix4 0 0 k q) := by
  pointwise [val_main_v21, val_main_v16, val_main_v15, v14_at]

theorem v23_at (x0 : (⟨S8192x2048, .f32⟩ : BufTy).Contents (Elt Ideal)) (x1 : (⟨S2x2x2048, .f32⟩ : BufTy).Contents (Elt Ideal))
    (x3 : (⟨S2x2x2048x5632, .f32⟩ : BufTy).Contents (Elt Ideal)) (r : Fin 8192) (q : Fin 5632) :
    val_main_v23 (F := Ideal) x0 x1 x3 (ix2 r q)
      = ∑ k : Fin 2048, rowNorm (fun k => x0 (ix2 r k)) (fun k => x1 (ix3 0 0 k)) k * x3 (ix4 0 0 k q) := by
  pointwise [val_main_v23, val_main_v18, val_main_v17, v14_at]

theorem v24_at (x0 : (⟨S8192x2048, .f32⟩ : BufTy).Contents (Elt Ideal)) (x1 : (⟨S2x2x2048, .f32⟩ : BufTy).Contents (Elt Ideal))
    (x2 x3 : (⟨S2x2x2048x5632, .f32⟩ : BufTy).Contents (Elt Ideal)) (r : Fin 8192) (q : Fin 5632) :
    val_main_v24 (F := Ideal) x0 x1 x2 x3 (ix2 r q)
      = gate (rowNorm (fun k => x0 (ix2 r k)) (fun k => x1 (ix3 0 0 k))) (fun k => x2 (ix4 0 0 k q)) (fun k => x3 (ix4 0 0 k q)) := by
  pointwise [val_main_v24, val_main_v22, val_main_call0_v5, val_main_call0_v4, val_main_call0_cst_0, val_main_call0_v3, val_main_call0_v2, val_main_call0_cst, val_main_call0_v1, val_main_call0_v0, v21_at, v23_at, gate, Ideal.logistic]

theorem v28_at (x0 : (⟨S8192x2048, .f32⟩ : BufTy).Contents (Elt Ideal)) (x1 : (⟨S2x2x2048, .f32⟩ : BufTy).Contents (Elt Ideal))
    (x2 x3 : (⟨S2x2x2048x5632, .f32⟩ : BufTy).Contents (Elt Ideal)) (x4 : (⟨S2x2x5632x2048, .f32⟩ : BufTy).Contents (Elt Ideal)) (r : Fin 8192) (n : Fin 2048) :
    val_main_v28 (F := Ideal) x0 x1 x2 x3 x4 (ix2 r n)
      = ffn (fun k => x0 (ix2 r k)) (fun k => x1 (ix3 0 0 k)) (fun k q => x2 (ix4 0 0 k q)) (fun k q => x3 (ix4 0 0 k q)) (fun q n => x4 (ix4 0 0 q n)) n := by
  pointwise [val_main_v28, val_main_v27, val_main_v26, val_main_cst_2, val_main_v25, val_main_v20, val_main_v19, v24_at, ffn, hid, half]

end Cert.FfnRefIdeal.Read

end
-- ==== Proof.FfnValue.lean ====
module

public import proofs.«01_k».proof.Proof.FfnCase
public import proofs.«01_k».proof.Proof.FfnPure
public import proofs.«01_k».proof.Proof.Gen.FfnIdeal.Value

/-! The feed-forward kernel's result: for each block of rows, what the blocks of hidden columns met so far have added. -/

@[expose] public section

set_option maxRecDepth 16384

noncomputable section

namespace Cert.FfnIdeal.Fold

open Cert.FfnIdeal Cert.FfnIdeal.Gen Cert.RowNorm Cert.SwiGlu
open Idealize.ShloMosaic Idealize.ShloMosaic.TcCoe Idealize.ShloMosaic.Pointwise
open Idealize.SL.Sem
open Idealize.ShloMosaic.Pipeline (Dat)

variable (m : (ℓ : Loc nD τ sig) → Buf (Elt Ideal) ℓ) (ρ : Dev nD → PrngReg)

/-- The arguments of one device. -/
abbrev xIn (c : Dev nD) : Vec Ideal S8192x2048 .f32 := m ((c : Thread nD τ).loc main_arg0)
abbrev gIn (c : Dev nD) : Vec Ideal S2x2x2048 .f32 := m ((c : Thread nD τ).loc main_arg1)
abbrev w1In (c : Dev nD) : Vec Ideal S2x2x2048x5632 .f32 := m ((c : Thread nD τ).loc main_arg2)
abbrev w3In (c : Dev nD) : Vec Ideal S2x2x2048x5632 .f32 := m ((c : Thread nD τ).loc main_arg3)
abbrev w2In (c : Dev nD) : Vec Ideal S2x2x5632x2048 .f32 := m ((c : Thread nD τ).loc main_arg4)

/-! ## What the host prepares -/

theorem V_v2 (c : Dev nD) (k : Fin 2048) :
    (V m c main_v2 : Vec Ideal S1x2048 .f32) (ix2 0 k) = gIn m c (ix3 0 0 k) := by
  have e : (V m c main_v2 : Vec Ideal S1x2048 .f32) = shapeCast S1x2048 (shapeCast S2048
      (extractStridedSlice S1x1x2048 ![0, 0, 0] (gIn m c) slices_S2x2x2048_S1x1x2048_0_0_0) shapeCasts_S1x1x2048_S2048) shapeCasts_S2048_S1x2048 := by
    simp only [V, hostOps0, List.flatten_cons, List.flatten_nil, List.append_nil, List.cons_append,
      List.nil_append, StableHlo.TRef.binary, StableHlo.TRef.unary, StableHlo.TRef.toBuf, StableHlo.TRef.ofBuf, cast_eq]
    after_results
    rfl
  rw [e]
  pointwise

/-! ## The blocks the body reads -/

theorem point_lt (t : Fin cfg0.N) : t.val < 176 := by have h := t.isLt; have hN : cfg0.N = 176 := N_0; omega

theorem index0 : ∀ t : Fin cfg0.N, win0_0.index t 0 = t.val / 22 ∧ win0_0.index t 1 = 0 :=
  (by decide +kernel : ∀ t : Fin grid0.N, win0_0.index t 0 = t.val / 22 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 ∧ win0_2.index t 2 = 0 ∧ win0_2.index t 3 = t.val % 22 :=
  (by decide +kernel : ∀ t : Fin grid0.N, win0_2.index t 0 = 0 ∧ win0_2.index t 1 = 0 ∧ win0_2.index t 2 = 0 ∧ win0_2.index t 3 = t.val % 22)
theorem index3 : ∀ t : Fin cfg0.N, win0_3.index t 0 = 0 ∧ win0_3.index t 1 = 0 ∧ win0_3.index t 2 = 0 ∧ win0_3.index t 3 = t.val % 22 :=
  (by decide +kernel : ∀ t : Fin grid0.N, win0_3.index t 0 = 0 ∧ win0_3.index t 1 = 0 ∧ win0_3.index t 2 = 0 ∧ win0_3.index t 3 = t.val % 22)
theorem index4 : ∀ t : Fin cfg0.N, win0_4.index t 0 = 0 ∧ win0_4.index t 1 = 0 ∧ win0_4.index t 2 = t.val % 22 ∧ win0_4.index t 3 = 0 :=
  (by decide +kernel : ∀ t : Fin grid0.N, win0_4.index t 0 = 0 ∧ win0_4.index t 1 = 0 ∧ win0_4.index t 2 = t.val % 22 ∧ win0_4.index t 3 = 0)

theorem iblk0_apply (c : Dev nD) (t : Fin cfg0.N) (r : Fin 1024) (k : Fin 2048) :
    (iblk m c 0 t : Vec Ideal S1024x2048 .f32) (ix2 r k)
      = xIn m c (ix2 ⟨t.val / 22 * 1024 + r.val, by have := point_lt t; omega⟩ k) := by
  have e : (iblk m c 0 t : Vec Ideal S1024x2048 .f32) (ix2 r k) = V m c main_arg0 ((win0_0.rect t).emb (ix2 r k)) := rfl
  rw [e, V_main_arg0]
  refine congrArg (xIn m c) (Shape.idx_ext₂ ?_ ?_)
  · refine (win0_0.rect_emb_val t _ 0).trans ?_
    rw [(index0 t).1]; rfl
  · exact win0_0.rect_emb_val_of_index_zero t 1 (index0 t).2 _

theorem iblk1_apply (c : Dev nD) (t : Fin cfg0.N) (k : Fin 2048) :
    (iblk m c 1 t : Vec Ideal S1x2048 .f32) (ix2 0 k) = gIn m c (ix3 0 0 k) := by
  have e : (iblk m c 1 t : Vec Ideal S1x2048 .f32) (ix2 0 k) = V m c main_v2 ((win0_1.rect t).emb (ix2 0 k)) := rfl
  rw [e, ← V_v2 m c k]
  refine congrArg (V m c main_v2 : Vec Ideal S1x2048 .f32) (Shape.idx_ext₂ ?_ ?_)
  · exact win0_1.rect_emb_val_of_index_zero t 0 (index1 t).1 _
  · exact win0_1.rect_emb_val_of_index_zero t 1 (index1 t).2 _

theorem iblk2_apply (c : Dev nD) (t : Fin cfg0.N) (k : Fin 2048) (q : Fin 256) :
    (iblk m c 2 t : Vec Ideal S1x1x2048x256 .f32) (ix4 0 0 k q)
      = w1In m c (ix4 0 0 k (pos (t.val % 22) (Nat.mod_lt _ (by decide)) q)) := by
  have e : (iblk m c 2 t : Vec Ideal S1x1x2048x256 .f32) (ix4 0 0 k q) = V m c main_arg2 ((win0_2.rect t).emb (ix4 0 0 k q)) := rfl
  rw [e, V_main_arg2]
  refine congrArg (w1In m c) (idx_ext₄ ?_ ?_ ?_ ?_)
  · refine (win0_2.rect_emb_val t _ 0).trans ?_
    rw [(index2 t).1]; rfl
  · refine (win0_2.rect_emb_val t _ 1).trans ?_
    rw [(index2 t).2.1]; rfl
  · exact win0_2.rect_emb_val_of_index_zero t 2 (index2 t).2.2.1 _
  · refine (win0_2.rect_emb_val t _ 3).trans ?_
    rw [(index2 t).2.2.2]; rfl

theorem iblk3_apply (c : Dev nD) (t : Fin cfg0.N) (k : Fin 2048) (q : Fin 256) :
    (iblk m c 3 t : Vec Ideal S1x1x2048x256 .f32) (ix4 0 0 k q)
      = w3In m c (ix4 0 0 k (pos (t.val % 22) (Nat.mod_lt _ (by decide)) q)) := by
  have e : (iblk m c 3 t : Vec Ideal S1x1x2048x256 .f32) (ix4 0 0 k q) = V m c main_arg3 ((win0_3.rect t).emb (ix4 0 0 k q)) := rfl
  rw [e, V_main_arg3]
  refine congrArg (w3In m c) (idx_ext₄ ?_ ?_ ?_ ?_)
  · refine (win0_3.rect_emb_val t _ 0).trans ?_
    rw [(index3 t).1]; rfl
  · refine (win0_3.rect_emb_val t _ 1).trans ?_
    rw [(index3 t).2.1]; rfl
  · exact win0_3.rect_emb_val_of_index_zero t 2 (index3 t).2.2.1 _
  · refine (win0_3.rect_emb_val t _ 3).trans ?_
    rw [(index3 t).2.2.2]; rfl

theorem iblk4_apply (c : Dev nD) (t : Fin cfg0.N) (q : Fin 256) (n : Fin 2048) :
    (iblk m c 4 t : Vec Ideal S1x1x256x2048 .f32) (ix4 0 0 q n)
      = w2In m c (ix4 0 0 (pos (t.val % 22) (Nat.mod_lt _ (by decide)) q) n) := by
  have e : (iblk m c 4 t : Vec Ideal S1x1x256x2048 .f32) (ix4 0 0 q n) = V m c main_arg4 ((win0_4.rect t).emb (ix4 0 0 q n)) := rfl
  rw [e, V_main_arg4]
  refine congrArg (w2In m c) (idx_ext₄ ?_ ?_ ?_ ?_)
  · refine (win0_4.rect_emb_val t _ 0).trans ?_
    rw [(index4 t).1]; rfl
  · refine (win0_4.rect_emb_val t _ 1).trans ?_
    rw [(index4 t).2.1]; rfl
  · refine (win0_4.rect_emb_val t _ 2).trans ?_
    rw [(index4 t).2.2.1]; rfl
  · exact win0_4.rect_emb_val_of_index_zero t 3 (index4 t).2.2.2 _

/-! ## One block of rows, its blocks of hidden columns one by one -/

/-- Row `r` of block `i`. -/
abbrev rowOf (i : Fin 8) (r : Fin 1024) : Fin 8192 := ⟨i.val * 1024 + r.val, by omega⟩

abbrev xRow (c : Dev nD) (i : Fin 8) (r : Fin 1024) (k : Fin 2048) : EReal := xIn m c (ix2 (rowOf i r) k)
abbrev gRow (c : Dev nD) (k : Fin 2048) : EReal := gIn m c (ix3 0 0 k)
abbrev w1At (c : Dev nD) (k : Fin 2048) (q : Fin 5632) : EReal := w1In m c (ix4 0 0 k q)
abbrev w3At (c : Dev nD) (k : Fin 2048) (q : Fin 5632) : EReal := w3In m c (ix4 0 0 k q)
abbrev w2At (c : Dev nD) (q : Fin 5632) (n : Fin 2048) : EReal := w2In m c (ix4 0 0 q n)

/-- What the hidden positions add to element `n` of row `r` of block `i`. -/
abbrev term (c : Dev nD) (i : Fin 8) (r : Fin 1024) (n : Fin 2048) : Fin 5632 → EReal :=
  hid (xRow m c i r) (gRow m c) (w1At m c) (w3At m c) (fun q => w2At m c q n)

/-- Point `j` of block `i`. -/
abbrev pt (i : Fin 8) (j : ℕ) : ℕ := 22 * i.val + j

theorem pt_lt (i : Fin 8) (j : ℕ) (hj : j < 22) : pt i j < cfg0.N := by
  rw [show cfg0.N = 176 from N_0]; show 22 * i.val + j < 176; omega

theorem pt_div (i : Fin 8) (j : ℕ) (hj : j < 22) : pt i j / 22 = i.val := by show (22 * i.val + j) / 22 = i.val; omega
theorem pt_mod (i : Fin 8) (j : ℕ) (hj : j < 22) : pt i j % 22 = j := by show (22 * i.val + j) % 22 = j; omega

theorem row_at (c : Dev nD) (i : Fin 8) (j : ℕ) (hj : j < 22) (r : Fin 1024) :
    (fun k => (iblk m c 0 ⟨pt i j, pt_lt i j hj⟩ : Vec Ideal S1024x2048 .f32) (ix2 r k)) = xRow m c i r :=
  funext fun k => (iblk0_apply m c ⟨pt i j, pt_lt i j hj⟩ r k).trans
    (congrArg (xIn m c) (Shape.idx_ext₂ (by show pt i j / 22 * 1024 + r.val = i.val * 1024 + r.val; rw [pt_div i j hj]) rfl))

theorem scale_at (c : Dev nD) (t : Fin cfg0.N) :
    (fun k => (iblk m c 1 t : Vec Ideal S1x2048 .f32) (ix2 0 k)) = gRow m c :=
  funext fun k => iblk1_apply m c t k

/-- The product a point adds: the factor on the weighted sum over its block of hidden columns. -/
theorem step_at (c : Dev nD) (i : Fin 8) (j : ℕ) (hj : j < 22) (h : Vec Ideal S1024x2048 .bf16) (o : Vec Ideal S1024x2048 .f32)
    (r : Fin 1024) (n : Fin 2048) (hh : ∀ k : Fin 2048, h (ix2 r k) = rowNorm (xRow m c i r) (gRow m c) k) :
    k0_pay2 (F := Ideal) h (iblk m c 2 ⟨pt i j, pt_lt i j hj⟩) (iblk m c 3 ⟨pt i j, pt_lt i j hj⟩) o (iblk m c 4 ⟨pt i j, pt_lt i j hj⟩) (ix2 r n)
      = o (ix2 r n) + half * ∑ q : Fin 256, term m c i r n (pos j hj q) := by
  have hp : ∀ (q : Fin 256), pos ((⟨pt i j, pt_lt i j hj⟩ : Fin cfg0.N).val % 22) (Nat.mod_lt _ (by decide)) q = pos j hj q :=
    fun q => Fin.ext (by show pt i j % 22 * 256 + q.val = j * 256 + q.val; rw [pt_mod i j hj])
  rw [pay2_apply]
  refine congrArg (fun s => o (ix2 r n) + half * s) (Finset.sum_congr rfl fun q _ => ?_)
  simp only [iblk2_apply, iblk3_apply, iblk4_apply, hp, hh]
  rfl

theorem outs_first (c : Dev nD) (t : Fin cfg0.N) (h0 : t.val % 22 = 0) :
    outsAt0 m c t.val t.isLt = (k0_pay2 (k0_pay1 (iblk m c 0 t) (iblk m c 1 t)) (iblk m c 2 t) (iblk m c 3 t) (iblk m c 0 t) (iblk m c 4 t),
      k0_pay1 (iblk m c 0 t) (iblk m c 1 t)) := by
  obtain ⟨n, hn⟩ := t
  cases n with
  | zero => exact (Value.outsAt0_zero m c hn).trans (st_A m c ⟨0, hn⟩ _ h0)
  | succ n => exact (Value.outsAt0_succ m c n hn).trans (st_A m c ⟨n + 1, hn⟩ _ h0)

/-- After point `j` of block `i`: the output's buffer holds the rows plus what the blocks up to `j` add, the scratch the normalised rows. -/
theorem outs_at (c : Dev nD) (i : Fin 8) : ∀ (j : ℕ) (hj : j < 22),
    (∀ (r : Fin 1024) (n : Fin 2048), (outsAt0 m c (pt i j) (pt_lt i j hj)).1 (ix2 r n)
        = xRow m c i r n + upTo (term m c i r n) (j + 1) hj)
    ∧ ∀ (r : Fin 1024) (k : Fin 2048), (outsAt0 m c (pt i j) (pt_lt i j hj)).2 (ix2 r k) = rowNorm (xRow m c i r) (gRow m c) k
  | 0, hj => by
    have e := outs_first m c ⟨pt i 0, pt_lt i 0 (by decide)⟩ (pt_mod i 0 (by decide))
    have h2 : ∀ (r : Fin 1024) (k : Fin 2048), k0_pay1 (F := Ideal) (iblk m c 0 ⟨pt i 0, pt_lt i 0 (by decide)⟩) (iblk m c 1 ⟨pt i 0, pt_lt i 0 (by decide)⟩) (ix2 r k)
        = rowNorm (xRow m c i r) (gRow m c) k := fun r k => by
      rw [pay1_apply, row_at m c i 0 (by decide) r, scale_at]
    constructor
    · intro r n
      refine (congrFun (congrArg Prod.fst e) (ix2 r n)).trans ((step_at m c i 0 (by decide) _ _ r n (h2 r)).trans ?_)
      rw [show (iblk m c 0 ⟨pt i 0, pt_lt i 0 (by decide)⟩ : Vec Ideal S1024x2048 .f32) (ix2 r n) = xRow m c i r n from
        congrFun (row_at m c i 0 (by decide) r) n]
      rw [upTo, upTo, zero_add]
    · intro r k
      exact (congrFun (congrArg Prod.snd e) (ix2 r k)).trans (h2 r k)
  | j + 1, hj => by
    obtain ⟨i1, i2⟩ := outs_at c i j (Nat.lt_of_succ_lt hj)
    have e : outsAt0 m c (pt i (j + 1)) (pt_lt i (j + 1) hj) = _ :=
      (Value.outsAt0_succ m c (pt i j) (pt_lt i (j + 1) hj)).trans (st_B m c ⟨pt i (j + 1), pt_lt i (j + 1) hj⟩ _
        (by show ¬ pt i (j + 1) % 22 = 0; rw [pt_mod i (j + 1) hj]; omega))
    constructor
    · intro r n
      refine (congrFun (congrArg Prod.fst e) (ix2 r n)).trans ((step_at m c i (j + 1) hj _ _ r n (i2 r)).trans ?_)
      rw [i1 r n, upTo.eq_2 (term m c i r n) (j + 1), add_assoc]
    · intro r k
      exact (congrFun (congrArg Prod.snd e) (ix2 r k)).trans (i2 r k)

/-! ## The result -/

/-- The reference's own term at this device's arguments. -/
abbrev res (c : Dev nD) : Vec Ideal S8192x2048 .f32 :=
  Cert.FfnRefIdeal.Read.val_main_v28 (F := Ideal) (xIn m c) (gIn m c) (w1In m c) (w3In m c) (w2In m c)

theorem final_at (c : Dev nD) (i : Fin 8) (r : Fin 1024) (n : Fin 2048) :
    (outsAt0 m c (pt i 21) (pt_lt i 21 (by decide))).1 (ix2 r n) = res m c (ix2 (rowOf i r) n) := by
  refine ((outs_at m c i 21 (by decide)).1 r n).trans ?_
  rw [upTo_all, res, Cert.FfnRefIdeal.Read.v28_at]
  rfl

theorem result_eq (c : Dev nD) : Value.G6 m c = res m c := by
  funext y
  have h0 : (y 0).val < 8192 := (y 0).isLt
  have h1 : (y 1).val < 2048 := (y 1).isLt
  let i : Fin 8 := ⟨(y 0).val / 1024, by omega⟩
  have hp : Value.pt6Of y = pt i 21 := by
    show 22 * (1 * ((y 0).val / 1024 - 0) + 1 * ((y 1).val / 2048 - 0)) + 21 = 22 * ((y 0).val / 1024) + 21
    omega
  unfold Value.G6
  rw [dif_pos (by rw [hp]; exact pt_lt i 21 (by decide))]
  have e := (Value.fold0_congr m c (Value.pt6Of y) (by rw [hp, Nat.zero_add]; exact pt_lt i 21 (by decide)) (pt i 21)
    (by rw [Nat.zero_add]; exact pt_lt i 21 (by decide)) hp).trans (Value.outsAt0_sweep m c (pt i 21) (pt_lt i 21 (by decide))).symm
  refine (congrFun (congrArg Prod.fst e) (Value.loc6Of y)).trans ?_
  have hl : Value.loc6Of y = ix2 (n0 := 1024) (n1 := 2048) ⟨(y 0).val % 1024, Nat.mod_lt _ (by decide)⟩ ⟨(y 1).val, h1⟩ :=
    Shape.idx_ext₂ rfl (by show (y 1).val % 2048 = (y 1).val; omega)
  rw [hl, final_at]
  refine congrArg (res m c) (Shape.idx_ext₂ ?_ rfl)
  show (y 0).val / 1024 * 1024 + (y 0).val % 1024 = (y 0).val
  omega

/-- The idealized kernel: its result is the reference's term at its own arguments, which are left as they were. -/
theorem run : θ_run defs (onTc (τ := τ) (main (F := Ideal))) ⟨m, fun _ => 0, ρ⟩ fun r => ∀ c : Dev nD,
    r.2.mem ((c.tc : Thread nD τ).loc main_v4) = res m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨(h c).1.trans (result_eq m c), (h c).2⟩) (Value.run m ρ)

end Cert.FfnIdeal.Fold

end
-- ==== Proof.FfnLastCase.lean ====
module

public import proofs.«01_k».proof.Proof.Gen.FfnLastIdeal.Value
public import Idealize.ShloMosaic.Lib.VecWindow

/-! What each case of the feed-forward kernel's body leaves in the output's staging buffer and in the normalised rows' scratch,
    as payloads of what the case reads. -/

@[expose] public section

set_option maxRecDepth 16384

noncomputable section

namespace Cert.FfnLastIdeal.Fold

open Cert.FfnLastIdeal Cert.FfnLastIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem z2 : (![0, 0] : Fin 2 → Nat) = fun _ => 0 := funext fun a => by fin_cases a <;> rfl
theorem z4 : (![0, 0, 0, 0] : Fin 4 → Nat) = fun _ => 0 := funext fun a => by fin_cases a <;> rfl

theorem sout_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x256 .f32) (harg4 : arg4.IsWhole) (arg5 : Memref sig .tc .vmem S1x1x2048x256 .f32) (harg5 : arg5.IsWhole) (arg6 : Memref sig .tc .vmem S1x1x256x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i)
    (x0 : Vec F S1024x2048 .f32) (x1 : Vec F S1x2048 .f32) (x2 : Vec F S1x1x2048x256 .f32) (x3 : Vec F S1x1x2048x256 .f32) (x4 : Vec F S1x1x256x2048 .f32) (x5 : Vec F S1x2048 .f32) :
    sout0_A_0 c i arg2 harg2 arg3 harg3 arg4 harg4 arg5 harg5 arg6 harg6 arg7 harg7 arg8 harg8 arg9 harg9 hc0 hc1 x0 x1 x2 x3 x4 x5 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_unit_zero (S := S1024x2048) z2]
  simp only [View.readAt_eq_ld, harg2.read_unread, harg3.read_unread, harg4.read_unread, harg5.read_unread, harg6.read_unread, harg7.read_unread, harg8.read_unread, harg9.read_unread, View.ld_unit_zero (S := S1024x2048) z2, View.ld_unit_zero (S := S1x2048) z2, View.ld_unit_zero (S := S1x1x2048x256) z4, View.ld_unit_zero (S := S1x1x256x2048) z4]

theorem out_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x256 .f32) (harg4 : arg4.IsWhole) (arg5 : Memref sig .tc .vmem S1x1x2048x256 .f32) (harg5 : arg5.IsWhole) (arg6 : Memref sig .tc .vmem S1x1x256x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i)
    (x0 : Vec F S1024x2048 .f32) (x1 : Vec F S1x2048 .f32) (x2 : Vec F S1x1x2048x256 .f32) (x3 : Vec F S1x1x2048x256 .f32) (x4 : Vec F S1x1x256x2048 .f32) (x5 : Vec F S1x2048 .f32) :
    out0_A_6 c i arg2 harg2 arg3 harg3 arg4 harg4 arg5 harg5 arg6 harg6 arg7 harg7 arg8 harg8 arg9 harg9 hc0 hc1 x0 x1 x2 x3 x4 x5 = k0_pay2 (k0_pay1 x0 x1) x2 x3 x0 x4 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1024x2048) z2]
  simp only [View.readCov_unit_zero (S := S1024x2048) _ z2]
  simp only [View.readAt_eq_ld, harg2.read_unread, harg3.read_unread, harg4.read_unread, harg5.read_unread, harg6.read_unread, harg7.read_unread, harg8.read_unread, harg9.read_unread, View.ld_unit_zero (S := S1024x2048) z2, View.ld_unit_zero (S := S1x2048) z2, View.ld_unit_zero (S := S1x1x2048x256) z4, View.ld_unit_zero (S := S1x1x256x2048) z4]

theorem out_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x256 .f32) (harg4 : arg4.IsWhole) (arg5 : Memref sig .tc .vmem S1x1x2048x256 .f32) (harg5 : arg5.IsWhole) (arg6 : Memref sig .tc .vmem S1x1x256x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : ¬cond0_1 i)
    (x0 : Vec F S1024x2048 .f32) (x1 : Vec F S1x2048 .f32) (x2 : Vec F S1x1x2048x256 .f32) (x3 : Vec F S1x1x2048x256 .f32) (x4 : Vec F S1x1x256x2048 .f32) (x5 : Vec F S1x2048 .f32) (xo : Vec F S1024x2048 .f32) (xs : Vec F S1024x2048 .bf16) :
    out0_B_6 c i arg2 harg2 arg3 harg3 arg4 harg4 arg5 harg5 arg6 harg6 arg7 harg7 arg8 harg8 arg9 harg9 hc0 hc1 x0 x1 x2 x3 x4 x5 xo xs = k0_pay2 xs x2 x3 xo x4 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xo xs)]
  unfold kernelRun0_B
  dsimp only
  rw [View.canon_unit_zero (S := S1024x2048) z2]
  simp only [View.readAt_eq_ld, harg2.read_unread, harg3.read_unread, harg4.read_unread, harg5.read_unread, harg6.read_unread, harg7.read_unread, harg8.read_unread, harg9.read_unread, View.ld_unit_zero (S := S1024x2048) z2, View.ld_unit_zero (S := S1x2048) z2, View.ld_unit_zero (S := S1x1x2048x256) z4, View.ld_unit_zero (S := S1x1x256x2048) z4]

theorem sout_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x256 .f32) (harg4 : arg4.IsWhole) (arg5 : Memref sig .tc .vmem S1x1x2048x256 .f32) (harg5 : arg5.IsWhole) (arg6 : Memref sig .tc .vmem S1x1x256x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : ¬cond0_1 i)
    (x0 : Vec F S1024x2048 .f32) (x1 : Vec F S1x2048 .f32) (x2 : Vec F S1x1x2048x256 .f32) (x3 : Vec F S1x1x2048x256 .f32) (x4 : Vec F S1x1x256x2048 .f32) (x5 : Vec F S1x2048 .f32) (xo : Vec F S1024x2048 .f32) (xs : Vec F S1024x2048 .bf16) :
    sout0_B_0 c i arg2 harg2 arg3 harg3 arg4 harg4 arg5 harg5 arg6 harg6 arg7 harg7 arg8 harg8 arg9 harg9 hc0 hc1 x0 x1 x2 x3 x4 x5 xo xs = xs := rfl

theorem out_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x256 .f32) (harg4 : arg4.IsWhole) (arg5 : Memref sig .tc .vmem S1x1x2048x256 .f32) (harg5 : arg5.IsWhole) (arg6 : Memref sig .tc .vmem S1x1x256x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : cond0_1 i)
    (x0 : Vec F S1024x2048 .f32) (x1 : Vec F S1x2048 .f32) (x2 : Vec F S1x1x2048x256 .f32) (x3 : Vec F S1x1x2048x256 .f32) (x4 : Vec F S1x1x256x2048 .f32) (x5 : Vec F S1x2048 .f32) (xo : Vec F S1024x2048 .f32) (xs : Vec F S1024x2048 .bf16) :
    out0_C_6 c i arg2 harg2 arg3 harg3 arg4 harg4 arg5 harg5 arg6 harg6 arg7 harg7 arg8 harg8 arg9 harg9 hc0 hc1 x0 x1 x2 x3 x4 x5 xo xs = k0_pay3 (k0_pay2 xs x2 x3 xo x4) x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo xs)]
  unfold kernelRun0_C
  dsimp only
  sl_unfold_words
  rw [View.canon_cons_unit_zero (S := S1024x2048) z2]
  simp only [View.readCov_unit_zero (S := S1024x2048) _ z2]
  simp only [View.readAt_eq_ld, harg2.read_unread, harg3.read_unread, harg4.read_unread, harg5.read_unread, harg6.read_unread, harg7.read_unread, harg8.read_unread, harg9.read_unread, View.ld_unit_zero (S := S1024x2048) z2, View.ld_unit_zero (S := S1x2048) z2, View.ld_unit_zero (S := S1x1x2048x256) z4, View.ld_unit_zero (S := S1x1x256x2048) z4]

theorem sout_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x256 .f32) (harg4 : arg4.IsWhole) (arg5 : Memref sig .tc .vmem S1x1x2048x256 .f32) (harg5 : arg5.IsWhole) (arg6 : Memref sig .tc .vmem S1x1x256x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : cond0_1 i)
    (x0 : Vec F S1024x2048 .f32) (x1 : Vec F S1x2048 .f32) (x2 : Vec F S1x1x2048x256 .f32) (x3 : Vec F S1x1x2048x256 .f32) (x4 : Vec F S1x1x256x2048 .f32) (x5 : Vec F S1x2048 .f32) (xo : Vec F S1024x2048 .f32) (xs : Vec F S1024x2048 .bf16) :
    sout0_C_0 c i arg2 harg2 arg3 harg3 arg4 harg4 arg5 harg5 arg6 harg6 arg7 harg7 arg8 harg8 arg9 harg9 hc0 hc1 x0 x1 x2 x3 x4 x5 xo xs = xs := rfl

/-- A point where j = 0: the rows normalised, the rows themselves with the first block's product added. -/
theorem st_A (c : Dev nD) (t : Fin cfg0.N) (acc : Vec F S1024x2048 .f32 × Vec F S1024x2048 .bf16) (h0 : t.val % 22 = 0) (h1 : ¬t.val % 22 = 21) :
    Value.stAt0 m c t.val t.isLt acc = ((k0_pay2 (k0_pay1 (iblk m c 0 t) (iblk m c 1 t)) (iblk m c 2 t) (iblk m c 3 t) (iblk m c 0 t) (iblk m c 4 t)), k0_pay1 (iblk m c 0 t) (iblk m c 1 t)) := by
  rw [Value.stAt0_A m c t acc h0 h1]
  rw [out_A, sout_A]

/-- A point where 0 < j and j is not the last: the block's product added to what the point before left. -/
theorem st_B (c : Dev nD) (t : Fin cfg0.N) (acc : Vec F S1024x2048 .f32 × Vec F S1024x2048 .bf16) (h0 : ¬t.val % 22 = 0) (h1 : ¬t.val % 22 = 21) :
    Value.stAt0 m c t.val t.isLt acc = ((k0_pay2 acc.2 (iblk m c 2 t) (iblk m c 3 t) acc.1 (iblk m c 4 t)), acc.2) := by
  rw [Value.stAt0_B m c t acc h0 h1]
  rw [out_B, sout_B]

/-- The last j: the last block's product added and the sum normalised. -/
theorem st_C (c : Dev nD) (t : Fin cfg0.N) (acc : Vec F S1024x2048 .f32 × Vec F S1024x2048 .bf16) (h0 : ¬t.val % 22 = 0) (h1 : t.val % 22 = 21) :
    Value.stAt0 m c t.val t.isLt acc = (k0_pay3 (k0_pay2 acc.2 (iblk m c 2 t) (iblk m c 3 t) acc.1 (iblk m c 4 t)) (iblk m c 5 t), acc.2) := by
  rw [Value.stAt0_C m c t acc h0 h1]
  rw [out_C, sout_C]

end Cert.FfnLastIdeal.Fold

end
-- ==== Proof.FfnLastPure.lean ====
module

public import proofs.«01_k».proof.Proof.Gen.FfnLastIdeal.Skeleton
public import proofs.«01_k».proof.Proof.Gen.FfnLastRefIdeal.Read
public import proofs.«01_k».proof.Proof.RowNorm

/-! The feed-forward kernel's payloads and its reference's stages, each at one index. -/

@[expose] public section

set_option maxRecDepth 16384

noncomputable section

namespace Cert.FfnLastIdeal.Fold

open Cert.FfnLastIdeal Cert.FfnLastIdeal.Gen Cert.RowNorm Cert.SwiGlu Idealize.ShloMosaic Idealize.ShloMosaic.Pointwise

theorem pay1_apply (x : Vec Ideal S1024x2048 .f32) (g : Vec Ideal S1x2048 .f32) (r : Fin 1024) (k : Fin 2048) :
    k0_pay1 (F := Ideal) x g (ix2 r k) = rowNorm (fun k => x (ix2 r k)) (fun k => g (ix2 0 k)) k := by
  pointwise [k0_pay1, rowNorm, meanSq]

theorem pay2_apply (h : Vec Ideal S1024x2048 .bf16) (w1 w3 : Vec Ideal S1x1x2048x256 .f32) (o : Vec Ideal S1024x2048 .f32)
    (w2 : Vec Ideal S1x1x256x2048 .f32) (r : Fin 1024) (n : Fin 2048) :
    k0_pay2 (F := Ideal) h w1 w3 o w2 (ix2 r n)
      = o (ix2 r n) + half * ∑ t : Fin 256, gate (fun k => h (ix2 r k)) (fun k => w1 (ix4 0 0 k t)) (fun k => w3 (ix4 0 0 k t)) * w2 (ix4 0 0 t n) := by
  pointwise [k0_pay2, gate, half]

theorem pay3_apply (x : Vec Ideal S1024x2048 .f32) (g : Vec Ideal S1x2048 .f32) (r : Fin 1024) (k : Fin 2048) :
    k0_pay3 (F := Ideal) x g (ix2 r k) = rowNorm (fun k => x (ix2 r k)) (fun k => g (ix2 0 k)) k := by
  pointwise [k0_pay3, rowNorm, meanSq]

end Cert.FfnLastIdeal.Fold

namespace Cert.FfnLastRefIdeal.Read

open Cert.FfnLastRefIdeal Cert.FfnLastRefIdeal.Gen Cert.RowNorm Cert.SwiGlu Idealize.ShloMosaic Idealize.ShloMosaic.Pointwise

theorem v14_at (x0 : (⟨S8192x2048, .f32⟩ : BufTy).Contents (Elt Ideal)) (x1 : (⟨S2x2x2048, .f32⟩ : BufTy).Contents (Elt Ideal))
    (r : Fin 8192) (k : Fin 2048) :
    val_main_v14 (F := Ideal) x0 x1 (ix2 r k) = rowNorm (fun k => x0 (ix2 r k)) (fun k => x1 (ix3 1 1 k)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rowNorm, meanSq]

theorem v21_at (x0 : (⟨S8192x2048, .f32⟩ : BufTy).Contents (Elt Ideal)) (x1 : (⟨S2x2x2048, .f32⟩ : BufTy).Contents (Elt Ideal))
    (x2 : (⟨S2x2x2048x5632, .f32⟩ : BufTy).Contents (Elt Ideal)) (r : Fin 8192) (q : Fin 5632) :
    val_main_v21 (F := Ideal) x0 x1 x2 (ix2 r q)
      = ∑ k : Fin 2048, rowNorm (fun k => x0 (ix2 r k)) (fun k => x1 (ix3 1 1 k)) k * x2 (ix4 1 1 k q) := by
  pointwise [val_main_v21, val_main_v16, val_main_v15, v14_at]

theorem v23_at (x0 : (⟨S8192x2048, .f32⟩ : BufTy).Contents (Elt Ideal)) (x1 : (⟨S2x2x2048, .f32⟩ : BufTy).Contents (Elt Ideal))
    (x3 : (⟨S2x2x2048x5632, .f32⟩ : BufTy).Contents (Elt Ideal)) (r : Fin 8192) (q : Fin 5632) :
    val_main_v23 (F := Ideal) x0 x1 x3 (ix2 r q)
      = ∑ k : Fin 2048, rowNorm (fun k => x0 (ix2 r k)) (fun k => x1 (ix3 1 1 k)) k * x3 (ix4 1 1 k q) := by
  pointwise [val_main_v23, val_main_v18, val_main_v17, v14_at]

theorem v24_at (x0 : (⟨S8192x2048, .f32⟩ : BufTy).Contents (Elt Ideal)) (x1 : (⟨S2x2x2048, .f32⟩ : BufTy).Contents (Elt Ideal))
    (x2 x3 : (⟨S2x2x2048x5632, .f32⟩ : BufTy).Contents (Elt Ideal)) (r : Fin 8192) (q : Fin 5632) :
    val_main_v24 (F := Ideal) x0 x1 x2 x3 (ix2 r q)
      = gate (rowNorm (fun k => x0 (ix2 r k)) (fun k => x1 (ix3 1 1 k))) (fun k => x2 (ix4 1 1 k q)) (fun k => x3 (ix4 1 1 k q)) := by
  pointwise [val_main_v24, val_main_v22, val_main_call0_v5, val_main_call0_v4, val_main_call0_cst_0, val_main_call0_v3, val_main_call0_v2, val_main_call0_cst, val_main_call0_v1, val_main_call0_v0, v21_at, v23_at, gate, Ideal.logistic]

theorem v28_at (x0 : (⟨S8192x2048, .f32⟩ : BufTy).Contents (Elt Ideal)) (x1 : (⟨S2x2x2048, .f32⟩ : BufTy).Contents (Elt Ideal))
    (x2 x3 : (⟨S2x2x2048x5632, .f32⟩ : BufTy).Contents (Elt Ideal)) (x4 : (⟨S2x2x5632x2048, .f32⟩ : BufTy).Contents (Elt Ideal)) (r : Fin 8192) (n : Fin 2048) :
    val_main_v28 (F := Ideal) x0 x1 x2 x3 x4 (ix2 r n)
      = ffn (fun k => x0 (ix2 r k)) (fun k => x1 (ix3 1 1 k)) (fun k q => x2 (ix4 1 1 k q)) (fun k q => x3 (ix4 1 1 k q)) (fun q n => x4 (ix4 1 1 q n)) n := by
  pointwise [val_main_v28, val_main_v27, val_main_v26, val_main_cst_2, val_main_v25, val_main_v20, val_main_v19, v24_at, ffn, hid, half]

theorem v41_at (x0 : (⟨S8192x2048, .f32⟩ : BufTy).Contents (Elt Ideal)) (x1 : (⟨S2x2x2048, .f32⟩ : BufTy).Contents (Elt Ideal))
    (x2 x3 : (⟨S2x2x2048x5632, .f32⟩ : BufTy).Contents (Elt Ideal)) (x4 : (⟨S2x2x5632x2048, .f32⟩ : BufTy).Contents (Elt Ideal))
    (x5 : (⟨S2048, .f32⟩ : BufTy).Contents (Elt Ideal)) (r : Fin 8192) (n : Fin 2048) :
    val_main_v41 (F := Ideal) x0 x1 x2 x3 x4 x5 (ix2 r n)
      = rowNorm (fun n => val_main_v28 (F := Ideal) x0 x1 x2 x3 x4 (ix2 r n)) (fun k => x5 (ix1 k)) n := by
  pointwise [val_main_v41, val_main_v40, val_main_v39, val_main_v38, val_main_v37, val_main_v36, val_main_v35, val_main_v34, val_main_v33, val_main_v32, val_main_v31, val_main_v30, val_main_v29, val_main_cst_3, val_main_cst_4, val_main_cst_5, rowNorm, meanSq]

end Cert.FfnLastRefIdeal.Read

end
-- ==== Proof.FfnLastValue.lean ====
module

public import proofs.«01_k».proof.Proof.FfnLastCase
public import proofs.«01_k».proof.Proof.FfnLastPure
public import proofs.«01_k».proof.Proof.Gen.FfnLastIdeal.Value

/-! The feed-forward kernel's result: for each block of rows, what the blocks of hidden columns met so far have added. -/

@[expose] public section

set_option maxRecDepth 16384

noncomputable section

namespace Cert.FfnLastIdeal.Fold

open Cert.FfnLastIdeal Cert.FfnLastIdeal.Gen Cert.RowNorm Cert.SwiGlu
open Idealize.ShloMosaic Idealize.ShloMosaic.TcCoe Idealize.ShloMosaic.Pointwise
open Idealize.SL.Sem
open Idealize.ShloMosaic.Pipeline (Dat)

variable (m : (ℓ : Loc nD τ sig) → Buf (Elt Ideal) ℓ) (ρ : Dev nD → PrngReg)

/-- The arguments of one device. -/
abbrev xIn (c : Dev nD) : Vec Ideal S8192x2048 .f32 := m ((c : Thread nD τ).loc main_arg0)
abbrev gIn (c : Dev nD) : Vec Ideal S2x2x2048 .f32 := m ((c : Thread nD τ).loc main_arg1)
abbrev w1In (c : Dev nD) : Vec Ideal S2x2x2048x5632 .f32 := m ((c : Thread nD τ).loc main_arg2)
abbrev w3In (c : Dev nD) : Vec Ideal S2x2x2048x5632 .f32 := m ((c : Thread nD τ).loc main_arg3)
abbrev w2In (c : Dev nD) : Vec Ideal S2x2x5632x2048 .f32 := m ((c : Thread nD τ).loc main_arg4)
abbrev fIn (c : Dev nD) : Vec Ideal S2048 .f32 := m ((c : Thread nD τ).loc main_arg5)

/-! ## What the host prepares -/

theorem V_v2 (c : Dev nD) (k : Fin 2048) :
    (V m c main_v2 : Vec Ideal S1x2048 .f32) (ix2 0 k) = gIn m c (ix3 1 1 k) := by
  have e : (V m c main_v2 : Vec Ideal S1x2048 .f32) = shapeCast S1x2048 (shapeCast S2048
      (extractStridedSlice S1x1x2048 ![1, 1, 0] (gIn m c) slices_S2x2x2048_S1x1x2048_1_1_0) shapeCasts_S1x1x2048_S2048) shapeCasts_S2048_S1x2048 := by
    simp only [V, hostOps0, List.flatten_cons, List.flatten_nil, List.append_nil, List.cons_append,
      List.nil_append, StableHlo.TRef.binary, StableHlo.TRef.unary, StableHlo.TRef.toBuf, StableHlo.TRef.ofBuf, cast_eq]
    after_results
    rfl
  rw [e]
  pointwise

theorem V_v3 (c : Dev nD) (k : Fin 2048) :
    (V m c main_v3 : Vec Ideal S1x2048 .f32) (ix2 0 k) = fIn m c (ix1 k) := by
  have e : (V m c main_v3 : Vec Ideal S1x2048 .f32) = shapeCast S1x2048 (fIn m c) shapeCasts_S2048_S1x2048 := by
    simp only [V, hostOps0, List.flatten_cons, List.flatten_nil, List.append_nil, List.cons_append,
      List.nil_append, StableHlo.TRef.binary, StableHlo.TRef.unary, StableHlo.TRef.toBuf, StableHlo.TRef.ofBuf, cast_eq]
    after_results
    rfl
  rw [e]
  pointwise

/-! ## The blocks the body reads -/

theorem point_lt (t : Fin cfg0.N) : t.val < 176 := by have h := t.isLt; have hN : cfg0.N = 176 := N_0; omega

theorem index0 : ∀ t : Fin cfg0.N, win0_0.index t 0 = t.val / 22 ∧ win0_0.index t 1 = 0 :=
  (by decide +kernel : ∀ t : Fin grid0.N, win0_0.index t 0 = t.val / 22 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 1 ∧ win0_2.index t 1 = 1 ∧ win0_2.index t 2 = 0 ∧ win0_2.index t 3 = t.val % 22 :=
  (by decide +kernel : ∀ t : Fin grid0.N, win0_2.index t 0 = 1 ∧ win0_2.index t 1 = 1 ∧ win0_2.index t 2 = 0 ∧ win0_2.index t 3 = t.val % 22)
theorem index3 : ∀ t : Fin cfg0.N, win0_3.index t 0 = 1 ∧ win0_3.index t 1 = 1 ∧ win0_3.index t 2 = 0 ∧ win0_3.index t 3 = t.val % 22 :=
  (by decide +kernel : ∀ t : Fin grid0.N, win0_3.index t 0 = 1 ∧ win0_3.index t 1 = 1 ∧ win0_3.index t 2 = 0 ∧ win0_3.index t 3 = t.val % 22)
theorem index4 : ∀ t : Fin cfg0.N, win0_4.index t 0 = 1 ∧ win0_4.index t 1 = 1 ∧ win0_4.index t 2 = t.val % 22 ∧ win0_4.index t 3 = 0 :=
  (by decide +kernel : ∀ t : Fin grid0.N, win0_4.index t 0 = 1 ∧ win0_4.index t 1 = 1 ∧ win0_4.index t 2 = t.val % 22 ∧ win0_4.index t 3 = 0)

theorem iblk0_apply (c : Dev nD) (t : Fin cfg0.N) (r : Fin 1024) (k : Fin 2048) :
    (iblk m c 0 t : Vec Ideal S1024x2048 .f32) (ix2 r k)
      = xIn m c (ix2 ⟨t.val / 22 * 1024 + r.val, by have := point_lt t; omega⟩ k) := by
  have e : (iblk m c 0 t : Vec Ideal S1024x2048 .f32) (ix2 r k) = V m c main_arg0 ((win0_0.rect t).emb (ix2 r k)) := rfl
  rw [e, V_main_arg0]
  refine congrArg (xIn m c) (Shape.idx_ext₂ ?_ ?_)
  · refine (win0_0.rect_emb_val t _ 0).trans ?_
    rw [(index0 t).1]; rfl
  · exact win0_0.rect_emb_val_of_index_zero t 1 (index0 t).2 _

theorem iblk1_apply (c : Dev nD) (t : Fin cfg0.N) (k : Fin 2048) :
    (iblk m c 1 t : Vec Ideal S1x2048 .f32) (ix2 0 k) = gIn m c (ix3 1 1 k) := by
  have e : (iblk m c 1 t : Vec Ideal S1x2048 .f32) (ix2 0 k) = V m c main_v2 ((win0_1.rect t).emb (ix2 0 k)) := rfl
  rw [e, ← V_v2 m c k]
  refine congrArg (V m c main_v2 : Vec Ideal S1x2048 .f32) (Shape.idx_ext₂ ?_ ?_)
  · exact win0_1.rect_emb_val_of_index_zero t 0 (index1 t).1 _
  · exact win0_1.rect_emb_val_of_index_zero t 1 (index1 t).2 _

theorem iblk2_apply (c : Dev nD) (t : Fin cfg0.N) (k : Fin 2048) (q : Fin 256) :
    (iblk m c 2 t : Vec Ideal S1x1x2048x256 .f32) (ix4 0 0 k q)
      = w1In m c (ix4 1 1 k (pos (t.val % 22) (Nat.mod_lt _ (by decide)) q)) := by
  have e : (iblk m c 2 t : Vec Ideal S1x1x2048x256 .f32) (ix4 0 0 k q) = V m c main_arg2 ((win0_2.rect t).emb (ix4 0 0 k q)) := rfl
  rw [e, V_main_arg2]
  refine congrArg (w1In m c) (idx_ext₄ ?_ ?_ ?_ ?_)
  · refine (win0_2.rect_emb_val t _ 0).trans ?_
    rw [(index2 t).1]; rfl
  · refine (win0_2.rect_emb_val t _ 1).trans ?_
    rw [(index2 t).2.1]; rfl
  · exact win0_2.rect_emb_val_of_index_zero t 2 (index2 t).2.2.1 _
  · refine (win0_2.rect_emb_val t _ 3).trans ?_
    rw [(index2 t).2.2.2]; rfl

theorem iblk3_apply (c : Dev nD) (t : Fin cfg0.N) (k : Fin 2048) (q : Fin 256) :
    (iblk m c 3 t : Vec Ideal S1x1x2048x256 .f32) (ix4 0 0 k q)
      = w3In m c (ix4 1 1 k (pos (t.val % 22) (Nat.mod_lt _ (by decide)) q)) := by
  have e : (iblk m c 3 t : Vec Ideal S1x1x2048x256 .f32) (ix4 0 0 k q) = V m c main_arg3 ((win0_3.rect t).emb (ix4 0 0 k q)) := rfl
  rw [e, V_main_arg3]
  refine congrArg (w3In m c) (idx_ext₄ ?_ ?_ ?_ ?_)
  · refine (win0_3.rect_emb_val t _ 0).trans ?_
    rw [(index3 t).1]; rfl
  · refine (win0_3.rect_emb_val t _ 1).trans ?_
    rw [(index3 t).2.1]; rfl
  · exact win0_3.rect_emb_val_of_index_zero t 2 (index3 t).2.2.1 _
  · refine (win0_3.rect_emb_val t _ 3).trans ?_
    rw [(index3 t).2.2.2]; rfl

theorem iblk4_apply (c : Dev nD) (t : Fin cfg0.N) (q : Fin 256) (n : Fin 2048) :
    (iblk m c 4 t : Vec Ideal S1x1x256x2048 .f32) (ix4 0 0 q n)
      = w2In m c (ix4 1 1 (pos (t.val % 22) (Nat.mod_lt _ (by decide)) q) n) := by
  have e : (iblk m c 4 t : Vec Ideal S1x1x256x2048 .f32) (ix4 0 0 q n) = V m c main_arg4 ((win0_4.rect t).emb (ix4 0 0 q n)) := rfl
  rw [e, V_main_arg4]
  refine congrArg (w2In m c) (idx_ext₄ ?_ ?_ ?_ ?_)
  · refine (win0_4.rect_emb_val t _ 0).trans ?_
    rw [(index4 t).1]; rfl
  · refine (win0_4.rect_emb_val t _ 1).trans ?_
    rw [(index4 t).2.1]; rfl
  · refine (win0_4.rect_emb_val t _ 2).trans ?_
    rw [(index4 t).2.2.1]; rfl
  · exact win0_4.rect_emb_val_of_index_zero t 3 (index4 t).2.2.2 _

theorem index5 : ∀ t : Fin cfg0.N, win0_5.index t 0 = 0 ∧ win0_5.index t 1 = 0 :=
  (by decide +kernel : ∀ t : Fin grid0.N, win0_5.index t 0 = 0 ∧ win0_5.index t 1 = 0)

theorem iblk5_apply (c : Dev nD) (t : Fin cfg0.N) (k : Fin 2048) :
    (iblk m c 5 t : Vec Ideal S1x2048 .f32) (ix2 0 k) = fIn m c (ix1 k) := by
  have e : (iblk m c 5 t : Vec Ideal S1x2048 .f32) (ix2 0 k) = V m c main_v3 ((win0_5.rect t).emb (ix2 0 k)) := rfl
  rw [e, ← V_v3 m c k]
  refine congrArg (V m c main_v3 : Vec Ideal S1x2048 .f32) (Shape.idx_ext₂ ?_ ?_)
  · exact win0_5.rect_emb_val_of_index_zero t 0 (index5 t).1 _
  · exact win0_5.rect_emb_val_of_index_zero t 1 (index5 t).2 _

/-! ## One block of rows, its blocks of hidden columns one by one -/

/-- Row `r` of block `i`. -/
abbrev rowOf (i : Fin 8) (r : Fin 1024) : Fin 8192 := ⟨i.val * 1024 + r.val, by omega⟩

abbrev xRow (c : Dev nD) (i : Fin 8) (r : Fin 1024) (k : Fin 2048) : EReal := xIn m c (ix2 (rowOf i r) k)
abbrev gRow (c : Dev nD) (k : Fin 2048) : EReal := gIn m c (ix3 1 1 k)
abbrev w1At (c : Dev nD) (k : Fin 2048) (q : Fin 5632) : EReal := w1In m c (ix4 1 1 k q)
abbrev w3At (c : Dev nD) (k : Fin 2048) (q : Fin 5632) : EReal := w3In m c (ix4 1 1 k q)
abbrev w2At (c : Dev nD) (q : Fin 5632) (n : Fin 2048) : EReal := w2In m c (ix4 1 1 q n)

/-- What the hidden positions add to element `n` of row `r` of block `i`. -/
abbrev term (c : Dev nD) (i : Fin 8) (r : Fin 1024) (n : Fin 2048) : Fin 5632 → EReal :=
  hid (xRow m c i r) (gRow m c) (w1At m c) (w3At m c) (fun q => w2At m c q n)

/-- Point `j` of block `i`. -/
abbrev pt (i : Fin 8) (j : ℕ) : ℕ := 22 * i.val + j

theorem pt_lt (i : Fin 8) (j : ℕ) (hj : j < 22) : pt i j < cfg0.N := by
  rw [show cfg0.N = 176 from N_0]; show 22 * i.val + j < 176; omega

theorem pt_div (i : Fin 8) (j : ℕ) (hj : j < 22) : pt i j / 22 = i.val := by show (22 * i.val + j) / 22 = i.val; omega
theorem pt_mod (i : Fin 8) (j : ℕ) (hj : j < 22) : pt i j % 22 = j := by show (22 * i.val + j) % 22 = j; omega

theorem row_at (c : Dev nD) (i : Fin 8) (j : ℕ) (hj : j < 22) (r : Fin 1024) :
    (fun k => (iblk m c 0 ⟨pt i j, pt_lt i j hj⟩ : Vec Ideal S1024x2048 .f32) (ix2 r k)) = xRow m c i r :=
  funext fun k => (iblk0_apply m c ⟨pt i j, pt_lt i j hj⟩ r k).trans
    (congrArg (xIn m c) (Shape.idx_ext₂ (by show pt i j / 22 * 1024 + r.val = i.val * 1024 + r.val; rw [pt_div i j hj]) rfl))

theorem scale_at (c : Dev nD) (t : Fin cfg0.N) :
    (fun k => (iblk m c 1 t : Vec Ideal S1x2048 .f32) (ix2 0 k)) = gRow m c :=
  funext fun k => iblk1_apply m c t k

/-- The product a point adds: the factor on the weighted sum over its block of hidden columns. -/
theorem step_at (c : Dev nD) (i : Fin 8) (j : ℕ) (hj : j < 22) (h : Vec Ideal S1024x2048 .bf16) (o : Vec Ideal S1024x2048 .f32)
    (r : Fin 1024) (n : Fin 2048) (hh : ∀ k : Fin 2048, h (ix2 r k) = rowNorm (xRow m c i r) (gRow m c) k) :
    k0_pay2 (F := Ideal) h (iblk m c 2 ⟨pt i j, pt_lt i j hj⟩) (iblk m c 3 ⟨pt i j, pt_lt i j hj⟩) o (iblk m c 4 ⟨pt i j, pt_lt i j hj⟩) (ix2 r n)
      = o (ix2 r n) + half * ∑ q : Fin 256, term m c i r n (pos j hj q) := by
  have hp : ∀ (q : Fin 256), pos ((⟨pt i j, pt_lt i j hj⟩ : Fin cfg0.N).val % 22) (Nat.mod_lt _ (by decide)) q = pos j hj q :=
    fun q => Fin.ext (by show pt i j % 22 * 256 + q.val = j * 256 + q.val; rw [pt_mod i j hj])
  rw [pay2_apply]
  refine congrArg (fun s => o (ix2 r n) + half * s) (Finset.sum_congr rfl fun q _ => ?_)
  simp only [iblk2_apply, iblk3_apply, iblk4_apply, hp, hh]
  rfl

theorem outs_first (c : Dev nD) (t : Fin cfg0.N) (h0 : t.val % 22 = 0) :
    outsAt0 m c t.val t.isLt = (k0_pay2 (k0_pay1 (iblk m c 0 t) (iblk m c 1 t)) (iblk m c 2 t) (iblk m c 3 t) (iblk m c 0 t) (iblk m c 4 t),
      k0_pay1 (iblk m c 0 t) (iblk m c 1 t)) := by
  obtain ⟨n, hn⟩ := t
  cases n with
  | zero => exact (Value.outsAt0_zero m c hn).trans (st_A m c ⟨0, hn⟩ _ h0 (by omega))
  | succ n => exact (Value.outsAt0_succ m c n hn).trans (st_A m c ⟨n + 1, hn⟩ _ h0 (by omega))

/-- After point `j` of block `i`: the output's buffer holds the rows plus what the blocks up to `j` add, the scratch the normalised rows. -/
theorem outs_at (c : Dev nD) (i : Fin 8) : ∀ (j : ℕ) (hj : j < 21),
    (∀ (r : Fin 1024) (n : Fin 2048), (outsAt0 m c (pt i j) (pt_lt i j (by omega))).1 (ix2 r n)
        = xRow m c i r n + upTo (term m c i r n) (j + 1) (by omega))
    ∧ ∀ (r : Fin 1024) (k : Fin 2048), (outsAt0 m c (pt i j) (pt_lt i j (by omega))).2 (ix2 r k) = rowNorm (xRow m c i r) (gRow m c) k
  | 0, hj => by
    have e := outs_first m c ⟨pt i 0, pt_lt i 0 (by decide)⟩ (pt_mod i 0 (by decide))
    have h2 : ∀ (r : Fin 1024) (k : Fin 2048), k0_pay1 (F := Ideal) (iblk m c 0 ⟨pt i 0, pt_lt i 0 (by decide)⟩) (iblk m c 1 ⟨pt i 0, pt_lt i 0 (by decide)⟩) (ix2 r k)
        = rowNorm (xRow m c i r) (gRow m c) k := fun r k => by
      rw [pay1_apply, row_at m c i 0 (by decide) r, scale_at]
    constructor
    · intro r n
      refine (congrFun (congrArg Prod.fst e) (ix2 r n)).trans ((step_at m c i 0 (by decide) _ _ r n (h2 r)).trans ?_)
      rw [show (iblk m c 0 ⟨pt i 0, pt_lt i 0 (by decide)⟩ : Vec Ideal S1024x2048 .f32) (ix2 r n) = xRow m c i r n from
        congrFun (row_at m c i 0 (by decide) r) n]
      rw [upTo, upTo, zero_add]
    · intro r k
      exact (congrFun (congrArg Prod.snd e) (ix2 r k)).trans (h2 r k)
  | j + 1, hj => by
    obtain ⟨i1, i2⟩ := outs_at c i j (Nat.lt_of_succ_lt hj)
    have e : outsAt0 m c (pt i (j + 1)) (pt_lt i (j + 1) (by omega)) = _ :=
      (Value.outsAt0_succ m c (pt i j) (pt_lt i (j + 1) (by omega))).trans (st_B m c ⟨pt i (j + 1), pt_lt i (j + 1) (by omega)⟩ _
        (by show ¬ pt i (j + 1) % 22 = 0; rw [pt_mod i (j + 1) (by omega)]; omega) (by show ¬ pt i (j + 1) % 22 = 21; rw [pt_mod i (j + 1) (by omega)]; omega))
    constructor
    · intro r n
      refine (congrFun (congrArg Prod.fst e) (ix2 r n)).trans ((step_at m c i (j + 1) (by omega) _ _ r n (i2 r)).trans ?_)
      rw [i1 r n, upTo.eq_2 (term m c i r n) (j + 1), add_assoc]
    · intro r k
      exact (congrFun (congrArg Prod.snd e) (ix2 r k)).trans (i2 r k)

/-- The last point of block `i`: the rows plus what all blocks add, normalised. -/
theorem outs_last (c : Dev nD) (i : Fin 8) (r : Fin 1024) (n : Fin 2048) :
    (outsAt0 m c (pt i 21) (pt_lt i 21 (by decide))).1 (ix2 r n)
      = rowNorm (fun n => xRow m c i r n + half * ∑ q : Fin 5632, term m c i r n q) (fun k => fIn m c (ix1 k)) n := by
  obtain ⟨i1, i2⟩ := outs_at m c i 20 (by decide)
  have e : outsAt0 m c (pt i 21) (pt_lt i 21 (by decide)) = _ :=
    (Value.outsAt0_succ m c (pt i 20) (pt_lt i 21 (by decide))).trans (st_C m c ⟨pt i 21, pt_lt i 21 (by decide)⟩ _
      (by show ¬ pt i 21 % 22 = 0; rw [pt_mod i 21 (by decide)]; decide) (pt_mod i 21 (by decide)))
  refine (congrFun (congrArg Prod.fst e) (ix2 r n)).trans ?_
  dsimp only
  rw [pay3_apply]
  refine congrArg₂ (fun a b => rowNorm a b n) (funext fun n => ?_) (funext fun k => iblk5_apply m c _ k)
  refine (step_at m c i 21 (by decide) _ _ r n (i2 r)).trans ?_
  rw [i1 r n, ← upTo_all, upTo.eq_2 (term m c i r n) 21, add_assoc]

/-! ## The result -/

/-- The reference's own term at this device's arguments. -/
abbrev res (c : Dev nD) : Vec Ideal S8192x2048 .f32 :=
  Cert.FfnLastRefIdeal.Read.val_main_v41 (F := Ideal) (xIn m c) (gIn m c) (w1In m c) (w3In m c) (w2In m c) (fIn m c)

theorem final_at (c : Dev nD) (i : Fin 8) (r : Fin 1024) (n : Fin 2048) :
    (outsAt0 m c (pt i 21) (pt_lt i 21 (by decide))).1 (ix2 r n) = res m c (ix2 (rowOf i r) n) := by
  rw [outs_last, res, Cert.FfnLastRefIdeal.Read.v41_at]
  refine congrArg (fun a => rowNorm a _ n) (funext fun n => ?_)
  rw [Cert.FfnLastRefIdeal.Read.v28_at]
  rfl

theorem result_eq (c : Dev nD) : Value.G6 m c = res m c := by
  funext y
  have h0 : (y 0).val < 8192 := (y 0).isLt
  have h1 : (y 1).val < 2048 := (y 1).isLt
  let i : Fin 8 := ⟨(y 0).val / 1024, by omega⟩
  have hp : Value.pt6Of y = pt i 21 := by
    show 22 * (1 * ((y 0).val / 1024 - 0) + 1 * ((y 1).val / 2048 - 0)) + 21 = 22 * ((y 0).val / 1024) + 21
    omega
  unfold Value.G6
  rw [dif_pos (by rw [hp]; exact pt_lt i 21 (by decide))]
  have e := (Value.fold0_congr m c (Value.pt6Of y) (by rw [hp, Nat.zero_add]; exact pt_lt i 21 (by decide)) (pt i 21)
    (by rw [Nat.zero_add]; exact pt_lt i 21 (by decide)) hp).trans (Value.outsAt0_sweep m c (pt i 21) (pt_lt i 21 (by decide))).symm
  refine (congrFun (congrArg Prod.fst e) (Value.loc6Of y)).trans ?_
  have hl : Value.loc6Of y = ix2 (n0 := 1024) (n1 := 2048) ⟨(y 0).val % 1024, Nat.mod_lt _ (by decide)⟩ ⟨(y 1).val, h1⟩ :=
    Shape.idx_ext₂ rfl (by show (y 1).val % 2048 = (y 1).val; omega)
  rw [hl, final_at]
  refine congrArg (res m c) (Shape.idx_ext₂ ?_ rfl)
  show (y 0).val / 1024 * 1024 + (y 0).val % 1024 = (y 0).val
  omega

/-- The idealized kernel: its result is the reference's term at its own arguments, which are left as they were. -/
theorem run : θ_run defs (onTc (τ := τ) (main (F := Ideal))) ⟨m, fun _ => 0, ρ⟩ fun r => ∀ c : Dev nD,
    r.2.mem ((c.tc : Thread nD τ).loc main_v4) = res m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun r h c => ⟨(h c).1.trans (result_eq m c), (h c).2⟩) (Value.run m ρ)

end Cert.FfnLastIdeal.Fold

end
-- ==== Proof.FfnClaim.lean ====
module

public import proofs.«01_k».proof.Defs
public import proofs.«01_k».proof.Proof.FfnValue
public import proofs.«01_k».proof.Proof.FfnLastValue
public import proofs.«01_k».proof.Proof.Gen.Ffn.Frame
public import proofs.«01_k».proof.Proof.Gen.FfnIdeal.Frame
public import proofs.«01_k».proof.Proof.Gen.FfnLast.Frame
public import proofs.«01_k».proof.Proof.Gen.FfnLastIdeal.Frame
public import proofs.«01_k».proof.Proof.Gen.FfnRefIdeal.Run
public import proofs.«01_k».proof.Proof.Gen.FfnLastRefIdeal.Run
public import Idealize.ShloMosaic.Lib.Quiescent

/-! The claims of the two feed-forward programs. -/

@[expose] public section

noncomputable section

namespace Cert.Proof

open Idealize.ShloMosaic Idealize.ShloMosaic.TcCoe Idealize.SL.Sem

theorem quiescent_ffnLast : Cert.quiescent_FfnLast (hFfnLast := Cert.FfnLast.Gen.facts) :=
  fun m ρ _ => Cert.FfnLast.Gen.frame m ρ

theorem quiescent_ffnLastIdeal : Cert.quiescent_FfnLastIdeal (hFfnLastIdeal := Cert.FfnLastIdeal.Gen.facts) :=
  fun m ρ _ => Cert.FfnLastIdeal.Gen.frame m ρ

theorem quiescent_ffnLastRef : Cert.quiescent_FfnLastRefIdeal (hFfnLastRefIdeal := Cert.FfnLastRefIdeal.Gen.facts) :=
  fun m ρ _ => (θ_run Cert.FfnLastRefIdeal.defs _ _).mono
    (fun r h => ⟨fun c => (h c).2, sem_eq_zero_of_no_sems rfl r.2⟩) (Cert.FfnLastRefIdeal.Value.run m ρ)

theorem algebraic_ffnLast : Cert.algebraic_FfnLastIdeal_FfnLastRefIdeal
    (hFfnLastIdeal := Cert.FfnLastIdeal.Gen.facts) (hFfnLastRefIdeal := Cert.FfnLastRefIdeal.Gen.facts) :=
  fun m ρ m' ρ' _ hag => ⟨fun c => Cert.FfnLastIdeal.Fold.res m c, Cert.FfnLastIdeal.Fold.run m ρ,
    (θ_run Cert.FfnLastRefIdeal.defs _ _).mono
      (fun r h c => ⟨(h c).1.trans ((Cert.FfnLastRefIdeal.Read.val_main_v41_eq (F := Ideal) m' c).trans (by
          rw [(hag c).1, (hag c).2.1, (hag c).2.2.1, (hag c).2.2.2.1, (hag c).2.2.2.2.1, (hag c).2.2.2.2.2])), (h c).2⟩)
      (Cert.FfnLastRefIdeal.Value.run m' ρ')⟩

theorem quiescent_ffn : Cert.quiescent_Ffn (hFfn := Cert.Ffn.Gen.facts) :=
  fun m ρ _ => Cert.Ffn.Gen.frame m ρ

theorem quiescent_ffnIdeal : Cert.quiescent_FfnIdeal (hFfnIdeal := Cert.FfnIdeal.Gen.facts) :=
  fun m ρ _ => Cert.FfnIdeal.Gen.frame m ρ

theorem quiescent_ffnRef : Cert.quiescent_FfnRefIdeal (hFfnRefIdeal := Cert.FfnRefIdeal.Gen.facts) :=
  fun m ρ _ => (θ_run Cert.FfnRefIdeal.defs _ _).mono
    (fun r h => ⟨fun c => (h c).2, sem_eq_zero_of_no_sems rfl r.2⟩) (Cert.FfnRefIdeal.Value.run m ρ)

theorem algebraic_ffn : Cert.algebraic_FfnIdeal_FfnRefIdeal
    (hFfnIdeal := Cert.FfnIdeal.Gen.facts) (hFfnRefIdeal := Cert.FfnRefIdeal.Gen.facts) :=
  fun m ρ m' ρ' _ hag => ⟨fun c => Cert.FfnIdeal.Fold.res m c, Cert.FfnIdeal.Fold.run m ρ,
    (θ_run Cert.FfnRefIdeal.defs _ _).mono
      (fun r h c => ⟨(h c).1.trans (by
          rw [(hag c).1, (hag c).2.1, (hag c).2.2.1, (hag c).2.2.2.1, (hag c).2.2.2.2]
          exact Cert.FfnRefIdeal.Read.val_main_v28_eq (F := Ideal) _ _ _ _ _), (h c).2⟩)
      (Cert.FfnRefIdeal.Value.run m' ρ')⟩

end Cert.Proof

end
-- ==== Proof.EvenBody.lean ====
module

public import proofs.«01_k».proof.Proof.Gen.EvenInprojIdeal.Skeleton
public import proofs.«01_k».proof.Proof.Gen.EvenInprojIdeal.Frame
public import Idealize.ShloMosaic.Lib.Pipeline.Value
public import Idealize.ShloMosaic.Lib.WritesUnit
public import Idealize.ShloMosaic.Lib.VecWindow

/-! What one run of the input projection's body does to its buffers, in the four cases of its two conditionals. -/

@[expose] public section

set_option maxRecDepth 16384

noncomputable section

namespace Cert.EvenInprojIdeal.Tracked

open Cert.EvenInprojIdeal Cert.EvenInprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)

variable {F : FTy → Type} [FloatOps F]

local notation "𝕄" => MT nD τ sig Unit (Elt F) ℕ (UR sig nD τ) ℕ

/-- The slab of the weight scratch that the body at `i` reads. -/
abbrev slab (i : grid0.Coords) : Rect S10x512x2048 := Rect.unit (s := S10x512x2048) (k0_off2 i) S1x512x2048.size (k0_off2_inb i)

/-- The slab the body stores is the one it reads. -/
theorem off1_eq (i : grid0.Coords) : k0_off1 i = k0_off2 i := rfl

/-- A load through the rectangle of the last store reads what was stored. -/
theorem readCov_slab {κ : Kind} {sp : Space} (v : View sig κ sp S10x512x2048 .bf16) {off off' : Fin 3 → ℕ} (h : off = off')
    (inb : ∀ a, off a + S1x512x2048.size a ≤ S10x512x2048.size a) (inb' : ∀ a, off' a + S1x512x2048.size a ≤ S10x512x2048.size a) (w : Vec F S1x512x2048 .bf16) :
    v.readCov [⟨Rect.unit (s := S10x512x2048) off S1x512x2048.size inb, w⟩] (Rect.unit (s := S10x512x2048) off' S1x512x2048.size inb').toLoadRect = w := by
  subst h
  exact View.readCov_cons_toLoadRect v (Rect.unit (s := S10x512x2048) off S1x512x2048.size inb) w []

/-- A slab stored over any contents: the slab holds what was stored, the rest what it held. -/
theorem stored_slab {κ : Kind} {sp : Space} (v : View sig κ sp S10x512x2048 .bf16) (f : v.ty.Contents (Elt F)) {off off' : Fin 3 → ℕ} (h : off = off')
    (inb : ∀ a, off a + S1x512x2048.size a ≤ S10x512x2048.size a) (inb' : ∀ a, off' a + S1x512x2048.size a ≤ S10x512x2048.size a) (w : Vec F S1x512x2048 .bf16) :
    ld (v.read (Elt F) (v.writes (Elt F) f [⟨Rect.unit (s := S10x512x2048) off S1x512x2048.size inb, w⟩])) (Rect.unit (s := S10x512x2048) off' S1x512x2048.size inb') = w
    ∧ ∀ y, y ∉ (Rect.unit (s := S10x512x2048) off' S1x512x2048.size inb').set → v.read (Elt F) (v.writes (Elt F) f [⟨Rect.unit (s := S10x512x2048) off S1x512x2048.size inb, w⟩]) y = v.read (Elt F) f y := by
  subst h
  constructor
  · funext x
    exact View.read_writes_cons_emb v f (Rect.unit (s := S10x512x2048) off S1x512x2048.size inb) w [] x
  · intro y hy
    rw [View.writes_cons]
    exact View.read_slice_write_of_not_mem _ _ _ _ (by rw [Rect.map_emb_univ]; exact hy)

/-- A whole load of a whole memref reads the contents it was given. -/
theorem whole_load {s : Shape} {e : EltTy} (a : Memref sig .tc .vmem s e) (ha : a.IsWhole) (x : Vec F s e) {off : Fin s.rank → ℕ} (inb : ∀ b, off b + s.size b ≤ s.size b) :
    a.view.readAt (Elt F) (Rect.unit off s.size inb).toLoadRect (ha.unread x) = x :=
  (View.readAt_full _ _ _).trans (ha.read_unread x)

set_option maxHeartbeats 1000000 in
/-- The body where j = 0 and i = 0. -/
theorem body_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S128x2048 .bf16) (harg5 : arg5.IsWhole) (arg6 : Memref sig .tc .vmem S1024x512 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S10x512x2048 .bf16) (harg9 : arg9.IsWhole) (hc0 : k0_cond1 i = 1#1) (hc1 : k0_cond2 i = 1#1)
    (x0 : Vec F S1024x2048 .f32) (x1 : Vec F S1x2048 .f32) (x2 : Vec F S512x2048 .f32) (x3 : Vec F S128x2048 .bf16) (d7 : Vec F S1024x128 .f32) (d8 : Vec F S1024x2048 .bf16) (d9 : Vec F S10x512x2048 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d7 ∗ owns (c : Thread nD τ) arg8 fullShare d8 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 (k0_pay2 x0 x1) (k0_pay4 x2)) ∗ owns (c : Thread nD τ) arg7 fullShare (k0_pay3 x0 x1 x3) ∗ owns (c : Thread nD τ) arg8 fullShare (k0_pay2 x0 x1) ∗ (∃ e, ⌜ld e (slab i) = k0_pay4 x2 ∧ ∀ y, y ∉ (slab i).set → e y = d9 y⌝ ∗ owns (c : Thread nD τ) arg9 fullShare e)) -∗ K ⟨⟩))
          ⊢ wp frame (wpE (defs₀ (F := F)) Variants.none c none) E (cc0_inproj i arg2 harg2 arg3 harg3 arg4 harg4 arg5 harg5 arg6 harg6 arg7 harg7 arg8 harg8 arg9 harg9) K := by
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full]
      have e6 : body_A.sl.v6 c arg2 harg2 arg3 harg3 arg8 x0 x1 = k0_pay2 x0 x1 := by
        unfold body_A.sl.v6
        refine (View.readCov_full _ _ _ _ _).trans ?_
        rw [whole_load arg2 harg2, whole_load arg3 harg3]
      have e8 : body_A.sl.v8 c i arg4 harg4 arg9 hc1 x2 = k0_pay4 x2 := by
        unfold body_A.sl.v8
        refine (readCov_slab _ (off1_eq i) _ _ _).trans ?_
        rw [whole_load arg4 harg4]
      rw [e6, e8]
    isplitl [H5]
    · iexists _; isplitr; swap; · iexact H5
      ipureintro
      rw [View.read_writes_full]
      rw [whole_load arg2 harg2, whole_load arg3 harg3, whole_load arg5 harg5]
    isplitl [HS0]
    · iexists _; isplitr; swap; · iexact HS0
      ipureintro
      unfold body_A.sl.HS0_1
      rw [View.read_writes_full]
      rw [whole_load arg2 harg2, whole_load arg3 harg3]
    iexists _; isplitr; swap
    · iexists _; isplitr; swap; · iexact HS1
      ipureintro; rfl
    ipureintro
    unfold body_A.sl.HS1_1
    rw [whole_load arg4 harg4]
    obtain ⟨h1, h2⟩ := stored_slab arg9.view (harg9.unread d9) (off1_eq i) (k0_off1_inb i hc1) (k0_off2_inb i) (k0_pay4 x2)
    refine ⟨h1, fun y hy => (h2 y hy).trans ?_⟩
    rw [harg9.read_unread]

set_option maxHeartbeats 1000000 in
/-- The body where j ≠ 0 and i = 0. -/
theorem body_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S128x2048 .bf16) (harg5 : arg5.IsWhole) (arg6 : Memref sig .tc .vmem S1024x512 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S10x512x2048 .bf16) (harg9 : arg9.IsWhole) (hc0 : ¬k0_cond1 i = 1#1) (hc1 : k0_cond2 i = 1#1)
    (x0 : Vec F S1024x2048 .f32) (x1 : Vec F S1x2048 .f32) (x2 : Vec F S512x2048 .f32) (x3 : Vec F S128x2048 .bf16) (d7 : Vec F S1024x128 .f32) (d8 : Vec F S1024x2048 .bf16) (d9 : Vec F S10x512x2048 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d7 ∗ owns (c : Thread nD τ) arg8 fullShare d8 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 d8 (k0_pay4 x2)) ∗ owns (c : Thread nD τ) arg7 fullShare d7 ∗ owns (c : Thread nD τ) arg8 fullShare d8 ∗ (∃ e, ⌜ld e (slab i) = k0_pay4 x2 ∧ ∀ y, y ∉ (slab i).set → e y = d9 y⌝ ∗ owns (c : Thread nD τ) arg9 fullShare e)) -∗ K ⟨⟩))
          ⊢ wp frame (wpE (defs₀ (F := F)) Variants.none c none) E (cc0_inproj i arg2 harg2 arg3 harg3 arg4 harg4 arg5 harg5 arg6 harg6 arg7 harg7 arg8 harg8 arg9 harg9) K := by
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full]
      have e8 : body_B.sl.v8 c i arg4 harg4 arg9 hc1 x2 = k0_pay4 x2 := by
        unfold body_B.sl.v8
        refine (readCov_slab _ (off1_eq i) _ _ _).trans ?_
        rw [whole_load arg4 harg4]
      rw [whole_load arg8 harg8, e8]
    isplitl [H5]
    · iexists _; isplitr; swap; · iexact H5
      ipureintro
      exact harg7.read_unread _
    isplitl [HS0]
    · iexists _; isplitr; swap; · iexact HS0
      ipureintro
      exact harg8.read_unread _
    iexists _; isplitr; swap
    · iexists _; isplitr; swap; · iexact HS1
      ipureintro; rfl
    ipureintro
    unfold body_B.sl.HS1_1
    rw [whole_load arg4 harg4]
    obtain ⟨h1, h2⟩ := stored_slab arg9.view (harg9.unread d9) (off1_eq i) (k0_off1_inb i hc1) (k0_off2_inb i) (k0_pay4 x2)
    refine ⟨h1, fun y hy => (h2 y hy).trans ?_⟩
    rw [harg9.read_unread]

set_option maxHeartbeats 1000000 in
/-- The body where j = 0 and i ≠ 0. -/
theorem body_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S128x2048 .bf16) (harg5 : arg5.IsWhole) (arg6 : Memref sig .tc .vmem S1024x512 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S10x512x2048 .bf16) (harg9 : arg9.IsWhole) (hc0 : k0_cond1 i = 1#1) (hc1 : ¬k0_cond2 i = 1#1)
    (x0 : Vec F S1024x2048 .f32) (x1 : Vec F S1x2048 .f32) (x2 : Vec F S512x2048 .f32) (x3 : Vec F S128x2048 .bf16) (d7 : Vec F S1024x128 .f32) (d8 : Vec F S1024x2048 .bf16) (d9 : Vec F S10x512x2048 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d7 ∗ owns (c : Thread nD τ) arg8 fullShare d8 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 (k0_pay2 x0 x1) (ld d9 (slab i))) ∗ owns (c : Thread nD τ) arg7 fullShare (k0_pay3 x0 x1 x3) ∗ owns (c : Thread nD τ) arg8 fullShare (k0_pay2 x0 x1) ∗ owns (c : Thread nD τ) arg9 fullShare d9) -∗ K ⟨⟩))
          ⊢ wp frame (wpE (defs₀ (F := F)) Variants.none c none) E (cc0_inproj i arg2 harg2 arg3 harg3 arg4 harg4 arg5 harg5 arg6 harg6 arg7 harg7 arg8 harg8 arg9 harg9) K := by
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full]
      have e6 : body_C.sl.v6 c arg2 harg2 arg3 harg3 arg8 x0 x1 = k0_pay2 x0 x1 := by
        unfold body_C.sl.v6
        refine (View.readCov_full _ _ _ _ _).trans ?_
        rw [whole_load arg2 harg2, whole_load arg3 harg3]
      rw [e6]
      rw [View.readAt_eq_ld, harg9.read_unread]
    isplitl [H5]
    · iexists _; isplitr; swap; · iexact H5
      ipureintro
      rw [View.read_writes_full]
      rw [whole_load arg2 harg2, whole_load arg3 harg3, whole_load arg5 harg5]
    isplitl [HS0]
    · iexists _; isplitr; swap; · iexact HS0
      ipureintro
      unfold body_C.sl.HS0_1
      rw [View.read_writes_full]
      rw [whole_load arg2 harg2, whole_load arg3 harg3]
    iexists _; isplitr; swap; · iexact HS1
    ipureintro
    exact harg9.read_unread _

set_option maxHeartbeats 1000000 in
/-- The body where j ≠ 0 and i ≠ 0. -/
theorem body_D (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S128x2048 .bf16) (harg5 : arg5.IsWhole) (arg6 : Memref sig .tc .vmem S1024x512 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S10x512x2048 .bf16) (harg9 : arg9.IsWhole) (hc0 : ¬k0_cond1 i = 1#1) (hc1 : ¬k0_cond2 i = 1#1)
    (x0 : Vec F S1024x2048 .f32) (x1 : Vec F S1x2048 .f32) (x2 : Vec F S512x2048 .f32) (x3 : Vec F S128x2048 .bf16) (d7 : Vec F S1024x128 .f32) (d8 : Vec F S1024x2048 .bf16) (d9 : Vec F S10x512x2048 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d7 ∗ owns (c : Thread nD τ) arg8 fullShare d8 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 d8 (ld d9 (slab i))) ∗ owns (c : Thread nD τ) arg7 fullShare d7 ∗ owns (c : Thread nD τ) arg8 fullShare d8 ∗ owns (c : Thread nD τ) arg9 fullShare d9) -∗ K ⟨⟩))
          ⊢ wp frame (wpE (defs₀ (F := F)) Variants.none c none) E (cc0_inproj i arg2 harg2 arg3 harg3 arg4 harg4 arg5 harg5 arg6 harg6 arg7 harg7 arg8 harg8 arg9 harg9) K := by
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full]
      rw [whole_load arg8 harg8]
      rw [View.readAt_eq_ld, harg9.read_unread]
    isplitl [H5]
    · iexists _; isplitr; swap; · iexact H5
      ipureintro
      exact harg7.read_unread _
    isplitl [HS0]
    · iexists _; isplitr; swap; · iexact HS0
      ipureintro
      exact harg8.read_unread _
    iexists _; isplitr; swap; · iexact HS1
    ipureintro
    exact harg9.read_unread _

end Cert.EvenInprojIdeal.Tracked

end
-- ==== Proof.EvenRun.lean ====
module

public import proofs.«01_k».proof.Proof.EvenBody
public import proofs.«01_k».proof.Proof.Gen.EvenInprojIdeal.Points
public import Idealize.ShloMosaic.Lib.Claim
public import Idealize.ShloMosaic.Lib.Pipeline.TableIdle

/-! The run of the input projection with the contents of its two scratch buffers followed from point to point: the
normalised rows of the current row block, and the slabs of rounded weights stored during the first row block. -/

@[expose] public section

set_option maxRecDepth 16384

noncomputable section

namespace Cert.EvenInprojIdeal.Tracked

open Cert.EvenInprojIdeal Cert.EvenInprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem cond1_iff (t : Fin cfg0.N) : k0_cond1 (grid0.coords t) = 1#1 ↔ t.val % 10 = 0 := by
  have ht : t.val < 80 := Nat.lt_of_lt_of_eq t.isLt N_0
  have e1 : (grid0.coords t 1).val = t.val / 1 % 10 := Pipeline.Grid.coords_val t 1 (by decide) rfl
  simp only [k0_cond1, e1]
  word_cmp

theorem cond2_iff (t : Fin cfg0.N) : k0_cond2 (grid0.coords t) = 1#1 ↔ t.val < 10 := by
  have ht : t.val < 80 := Nat.lt_of_lt_of_eq t.isLt N_0
  have e0 : (grid0.coords t 0).val = t.val / 10 % 8 := Pipeline.Grid.coords_val t 0 (by decide) rfl
  simp only [k0_cond2, e0]
  word_cmp

/-- The slab of point `t` is number `t mod 10`. -/
theorem off2_eq : ∀ t : Fin cfg0.N, k0_off2 (grid0.coords t) = ![t.val % 10, 0, 0] :=
  (by decide +kernel : ∀ t : Fin grid0.N, k0_off2 (grid0.coords t) = ![t.val % 10, 0, 0])

theorem idle5_iff (t : Fin cfg0.N) : cfg0.idle 5 (grid0.coords t) = !(k0_cond1 (grid0.coords t) == 1#1) := rfl

/-- The first point of the row block of point number `n`. -/
def rowPt (n : ℕ) : Fin cfg0.N := ⟨n / 10 * 10 % 80, lt_of_lt_of_eq (Nat.mod_lt _ (by decide)) N_0.symm⟩
/-- The point of the first row block that stores slab `n mod 10`. -/
def colPt (n : ℕ) : Fin cfg0.N := ⟨n % 10, lt_of_lt_of_eq (lt_trans (Nat.mod_lt _ (by decide)) (by decide : 10 < 80)) N_0.symm⟩

theorem rowPt_self (t : Fin cfg0.N) (h : t.val % 10 = 0) : rowPt t.val = t := by
  have ht : t.val < 80 := Nat.lt_of_lt_of_eq t.isLt N_0
  apply Fin.ext
  show t.val / 10 * 10 % 80 = t.val
  omega

theorem rowPt_pred (n : ℕ) (h : n % 10 ≠ 0) : rowPt (n - 1) = rowPt n := by
  apply Fin.ext
  show (n - 1) / 10 * 10 % 80 = n / 10 * 10 % 80
  omega

theorem rowPt_succ (n : ℕ) (h : (n + 1) % 10 ≠ 0) : rowPt (n + 1) = rowPt n := (rowPt_pred (n + 1) h).symm

theorem colPt_self (t : Fin cfg0.N) (h : t.val < 10) : colPt t.val = t := by
  apply Fin.ext
  show t.val % 10 = t.val
  omega

/-! ## What the buffers hold -/

/-- The normalised rows of the row block of point number `n`. -/
def hBlk (c : Dev nD) (n : ℕ) : Vec F S1024x2048 .bf16 := k0_pay2 (iblk m c 0 (rowPt n)) (iblk m c 1 (rowPt n))
/-- Slab `n mod 10` of the rounded weights. -/
def wSlab (c : Dev nD) (n : ℕ) : Vec F S1x512x2048 .bf16 := k0_pay4 (iblk m c 2 (colPt n))
/-- The block of the product stored at point number `n`. -/
def zBlk (c : Dev nD) (n : ℕ) : Vec F S1024x512 .bf16 := k0_pay5 (hBlk m c n) (wSlab m c n)
/-- The block of gates of the row block of point number `n`. -/
def gBlk (c : Dev nD) (n : ℕ) : Vec F S1024x128 .f32 := k0_pay3 (iblk m c 0 (rowPt n)) (iblk m c 1 (rowPt n)) (iblk m c 3 (rowPt n))

/-- What is known of the row scratch before point number `n`. -/
def RowsAt (c : Dev nD) (n : ℕ) (d : Vec F S1024x2048 .bf16) : Prop := n % 10 ≠ 0 → d = hBlk m c n
/-- What is known of the weight scratch before point number `n`: the slabs of the points passed. -/
def SlabsAt (c : Dev nD) (n : ℕ) (e : Vec F S10x512x2048 .bf16) : Prop :=
  ∀ t : Fin cfg0.N, t.val % 10 < n → ld e (slab (grid0.coords t)) = wSlab m c t.val

theorem slabs_store (c : Dev nD) (t : Fin cfg0.N) (ht : t.val < 10) (d e : Vec F S10x512x2048 .bf16) (hd : SlabsAt m c t.val d)
    (he : ld e (slab (grid0.coords t)) = k0_pay4 (iblk m c 2 t)) (hk : ∀ y, y ∉ (slab (grid0.coords t)).set → e y = d y) :
    SlabsAt m c (t.val + 1) e := by
  intro u hu
  by_cases h : u.val % 10 = t.val
  · have e1 : k0_off2 (grid0.coords u) = k0_off2 (grid0.coords t) := by rw [off2_eq, off2_eq, h, Nat.mod_eq_of_lt ht]
    have e2 : ∀ (o : Fin 3 → ℕ) (_ : o = k0_off2 (grid0.coords t)) (inb : ∀ a, o a + S1x512x2048.size a ≤ S10x512x2048.size a),
        ld e (Rect.unit (s := S10x512x2048) o S1x512x2048.size inb) = k0_pay4 (iblk m c 2 t) := by
      intro o ho inb; subst ho; exact he
    refine (e2 _ e1 _).trans ?_
    unfold wSlab
    rw [show colPt u.val = t from Fin.ext h]
  · rw [← hd u (by omega)]
    funext x
    refine hk _ ?_
    rw [Rect.mem_set_unit]
    intro hall
    have h0 := hall 0
    have hx : (x 0).val < 1 := (x 0).isLt
    have e3 : (((slab (grid0.coords u)).idx x) 0).val = k0_off2 (grid0.coords u) 0 + 1 * (x 0).val := rfl
    rw [e3, off2_eq, off2_eq] at h0
    change t.val % 10 ≤ u.val % 10 + 1 * (x 0).val ∧ u.val % 10 + 1 * (x 0).val < t.val % 10 + 1 at h0
    omega

theorem slabs_mono (c : Dev nD) (n : ℕ) (hn : 10 ≤ n) (e : Vec F S10x512x2048 .bf16) (h : SlabsAt m c n e) : SlabsAt m c (n + 1) e :=
  fun t _ => h t (by omega)

/-! ## The proof data -/

abbrev sc0 : Memref sig .tc .vmem S1024x2048 .bf16 := Memref.whole cc0_scratch0
abbrev sc1 : Memref sig .tc .vmem S10x512x2048 .bf16 := Memref.whole cc0_scratch1

/-- The invariant before point number `n`. -/
def Inv (c : Dev nD) (n : ℕ) : sProp 𝕄 :=
  iprop(iprop((∃ d, ⌜RowsAt m c n d⌝ ∗ owns (c : Thread nD τ) sc0 fullShare d) ∗ (∃ e, ⌜SlabsAt m c n e⌝ ∗ owns (c : Thread nD τ) sc1 fullShare e)) ∗ (∃ r, prngReg c r))

theorem scoped_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => zBlk m c t.val
    | ⟨5, _⟩ => gBlk m c t.val
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = zBlk m c t.val := by dsimp only [dats]
theorem after_5 (c : Dev nD) (t : Fin cfg0.N) : (dats m 0 c).after 5 t = gBlk m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem gBlk_pred (c : Dev nD) (n : ℕ) (h : n % 10 ≠ 0) : gBlk m c (n - 1) = gBlk m c n := by
  unfold gBlk; rw [rowPt_pred n h]

theorem fresh5 : ∀ t : Fin cfg0.N, t.val % 10 ≠ 0 → cfg0.fresh 5 t.val = false :=
  (by decide +kernel : ∀ t : Fin grid0.N, t.val % 10 ≠ 0 → cfg0.fresh 5 t.val = false)

theorem idle5_mod (t : Fin cfg0.N) (h : cfg0.idle 5 (grid0.coords t) = true) : t.val % 10 ≠ 0 := by
  intro h0
  rw [idle5_iff, (cond1_iff t).mpr h0] at h
  exact absurd h (by decide)

/-- Where the gates are not stored, their buffer holds the row block's gates already. -/
theorem before_5 (c : Dev nD) (t : Fin cfg0.N) (h : t.val % 10 ≠ 0) (d) : (dats m 0 c).before 5 t d = gBlk m c t.val := by
  rw [(dats m 0 c).before_out_traj 5 rfl (fun _ _ => rfl)
    (fun u _ hi _ => by rw [after_5, after_5]; exact (gBlk_pred m c u.val (idle5_mod u hi)).symm) t.val t rfl d,
    fresh5 t h, if_neg Bool.false_ne_true, after_5]
  exact gBlk_pred m c t.val h

/-! ## The body at a point -/

abbrev mw0 (t : Fin cfg0.N) : Memref sig .tc .vmem S1024x2048 .f32 := win0_0.stage (cfg0.slots t 0)
abbrev mw1 (t : Fin cfg0.N) : Memref sig .tc .vmem S1x2048 .f32 := win0_1.stage (cfg0.slots t 1)
abbrev mw2 (t : Fin cfg0.N) : Memref sig .tc .vmem S512x2048 .f32 := win0_2.stage (cfg0.slots t 2)
abbrev mw3 (t : Fin cfg0.N) : Memref sig .tc .vmem S128x2048 .bf16 := win0_3.stage (cfg0.slots t 3)
abbrev mw4 (t : Fin cfg0.N) : Memref sig .tc .vmem S1024x512 .bf16 := win0_4.stage (cfg0.slots t 4)
abbrev mw5 (t : Fin cfg0.N) : Memref sig .tc .vmem S1024x128 .f32 := win0_5.stage (cfg0.slots t 5)

def bodyPre (c : Dev nD) (t : Fin cfg0.N) : sProp 𝕄 :=
  iprop((dats m 0 c).Φ t.castSucc ∗ (dats m 0 c).owesAt () t.castSucc
    ∗ (∃ d, owns (c : Thread nD τ) (mw0 t) fullShare ((dats m 0 c).before 0 t d))
    ∗ (∃ d, owns (c : Thread nD τ) (mw1 t) fullShare ((dats m 0 c).before 1 t d))
    ∗ (∃ d, owns (c : Thread nD τ) (mw2 t) fullShare ((dats m 0 c).before 2 t d))
    ∗ (∃ d, owns (c : Thread nD τ) (mw3 t) fullShare ((dats m 0 c).before 3 t d))
    ∗ (∃ d, owns (c : Thread nD τ) (mw4 t) fullShare ((dats m 0 c).before 4 t d))
    ∗ (∃ d, owns (c : Thread nD τ) (mw5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_0 (c : Dev nD) (t : Fin cfg0.N) : (dats m 0 c).leavesExact 0 t = owns (c : Thread nD τ) (mw0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (mw1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (mw2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (mw3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (mw4 t) fullShare (zBlk m c t.val) := by
  unfold Dat.leavesExact; rw [show cfg0.idle 4 (cfg0.grid.coords t) = false from rfl, after_4]

/-- The gates' buffer after any point, stored there or found there. -/
theorem leaves_5 (c : Dev nD) (t : Fin cfg0.N) :
    owns (c : Thread nD τ) (mw5 t) fullShare (gBlk m c t.val) ⊢ ((dats m 0 c).leavesExact 5 t : sProp 𝕄) := by
  cases hi : cfg0.idle 5 (cfg0.grid.coords t)
  · unfold Dat.leavesExact; rw [hi, after_5]
  · have h0 : t.val % 10 ≠ 0 := idle5_mod t hi
    cases hf : (cfg0.win 5).flush t
    · rw [(dats m 0 c).leavesExact_idle 5 t hi hf]
      iintro H
      iexists (fun _ => Classical.arbitrary _)
      rw [before_5 m c t h0]
      iexact H
    · unfold Dat.leavesExact; rw [hi, hf, after_5]

set_option maxHeartbeats 3200000 in
theorem sound_A (c : Dev nD) (t : Fin cfg0.N) (h0 : t.val % 10 = 0) (h1 : t.val < 10) :
    bodyPre m c t ⊢ wp frame (wpE (defs₀ (F := F)) Variants.none c none) Set.univ (bodyAt0 t) (fun _ => bodyPost m c t) := by
  have hN : t.val < 80 := lt_of_lt_of_eq t.isLt (show cfg0.N = 80 from N_0)
  unfold bodyPre bodyPost bodyAt0
  simp only [before_0, before_1, before_2, before_3, leaves_0, leaves_1, leaves_2, leaves_3, leaves_4]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  iintro ⟨⟨⟨⟨%dh, %hh, HS0⟩, ⟨%dw, %hw, HS1⟩⟩, Hg⟩, Ho, ⟨%d0, H0⟩, ⟨%d1, H1⟩, ⟨%d2, H2⟩, ⟨%d3, H3⟩, ⟨%d4, H4⟩, ⟨%d5, H5⟩⟩
  iapply (body_A c (grid0.coords t) _ _ _ _ _ _ _ _ _ _ _ _ _ _ _ _ ((cond1_iff t).mpr h0) ((cond2_iff t).mpr h1) (iblk m c 0 t) (iblk m c 1 t) (iblk m c 2 t) (iblk m c 3 t) ((dats m 0 c).before 5 t d5) dh dw Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨H0, H1, H2, H3, H4, H5, HS0, ⟨%e, %he, HS1⟩⟩
  isplitl [HS0 HS1 Hg]
  · isplitl [HS0 HS1]
    · isplitl [HS0]
      · iexists _; isplitr; swap; · iexact HS0
        ipureintro
        intro hn
        unfold hBlk
        rw [rowPt_succ t.val hn]
        rw [rowPt_self t h0]
      iexists _; isplitr; swap; · iexact HS1
      ipureintro
      exact slabs_store m c t h1 dw e hw he.1 he.2
    iexact Hg
  isplitl [Ho]; · iexact Ho
  isplitl [H0]; · iexact H0
  isplitl [H1]; · iexact H1
  isplitl [H2]; · iexact H2
  isplitl [H3]; · iexact H3
  isplitl [H4]
  · have e1 : hBlk m c t.val = k0_pay2 (iblk m c 0 t) (iblk m c 1 t) := by unfold hBlk; rw [rowPt_self t h0]
    have e2 : wSlab m c t.val = k0_pay4 (iblk m c 2 t) := by unfold wSlab; rw [colPt_self t h1]
    unfold zBlk
    rw [e1, e2]
    iexact H4
  iapply (leaves_5 m c t)
  have e5 : gBlk m c t.val = k0_pay3 (iblk m c 0 t) (iblk m c 1 t) (iblk m c 3 t) := by unfold gBlk; rw [rowPt_self t h0]
  rw [e5]
  iexact H5

set_option maxHeartbeats 3200000 in
theorem sound_B (c : Dev nD) (t : Fin cfg0.N) (h0 : ¬t.val % 10 = 0) (h1 : t.val < 10) :
    bodyPre m c t ⊢ wp frame (wpE (defs₀ (F := F)) Variants.none c none) Set.univ (bodyAt0 t) (fun _ => bodyPost m c t) := by
  have hN : t.val < 80 := lt_of_lt_of_eq t.isLt (show cfg0.N = 80 from N_0)
  unfold bodyPre bodyPost bodyAt0
  simp only [before_0, before_1, before_2, before_3, leaves_0, leaves_1, leaves_2, leaves_3, leaves_4]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  iintro ⟨⟨⟨⟨%dh, %hh, HS0⟩, ⟨%dw, %hw, HS1⟩⟩, Hg⟩, Ho, ⟨%d0, H0⟩, ⟨%d1, H1⟩, ⟨%d2, H2⟩, ⟨%d3, H3⟩, ⟨%d4, H4⟩, ⟨%d5, H5⟩⟩
  rw [before_5 m c t h0]
  obtain rfl := hh h0
  iapply (body_B c (grid0.coords t) _ _ _ _ _ _ _ _ _ _ _ _ _ _ _ _ (fun h => h0 ((cond1_iff t).mp h)) ((cond2_iff t).mpr h1) (iblk m c 0 t) (iblk m c 1 t) (iblk m c 2 t) (iblk m c 3 t) (gBlk m c t.val) (hBlk m c t.val) dw Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨H0, H1, H2, H3, H4, H5, HS0, ⟨%e, %he, HS1⟩⟩
  isplitl [HS0 HS1 Hg]
  · isplitl [HS0 HS1]
    · isplitl [HS0]
      · iexists _; isplitr; swap; · iexact HS0
        ipureintro
        intro hn
        unfold hBlk
        rw [rowPt_succ t.val hn]
      iexists _; isplitr; swap; · iexact HS1
      ipureintro
      exact slabs_store m c t h1 dw e hw he.1 he.2
    iexact Hg
  isplitl [Ho]; · iexact Ho
  isplitl [H0]; · iexact H0
  isplitl [H1]; · iexact H1
  isplitl [H2]; · iexact H2
  isplitl [H3]; · iexact H3
  isplitl [H4]
  · have e1 : hBlk m c t.val = hBlk m c t.val := by rfl
    have e2 : wSlab m c t.val = k0_pay4 (iblk m c 2 t) := by unfold wSlab; rw [colPt_self t h1]
    unfold zBlk
    rw [e1, e2]
    iexact H4
  iapply (leaves_5 m c t)
  iexact H5

set_option maxHeartbeats 3200000 in
theorem sound_C (c : Dev nD) (t : Fin cfg0.N) (h0 : t.val % 10 = 0) (h1 : ¬t.val < 10) :
    bodyPre m c t ⊢ wp frame (wpE (defs₀ (F := F)) Variants.none c none) Set.univ (bodyAt0 t) (fun _ => bodyPost m c t) := by
  have hN : t.val < 80 := lt_of_lt_of_eq t.isLt (show cfg0.N = 80 from N_0)
  unfold bodyPre bodyPost bodyAt0
  simp only [before_0, before_1, before_2, before_3, leaves_0, leaves_1, leaves_2, leaves_3, leaves_4]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  iintro ⟨⟨⟨⟨%dh, %hh, HS0⟩, ⟨%dw, %hw, HS1⟩⟩, Hg⟩, Ho, ⟨%d0, H0⟩, ⟨%d1, H1⟩, ⟨%d2, H2⟩, ⟨%d3, H3⟩, ⟨%d4, H4⟩, ⟨%d5, H5⟩⟩
  iapply (body_C c (grid0.coords t) _ _ _ _ _ _ _ _ _ _ _ _ _ _ _ _ ((cond1_iff t).mpr h0) (fun h => h1 ((cond2_iff t).mp h)) (iblk m c 0 t) (iblk m c 1 t) (iblk m c 2 t) (iblk m c 3 t) ((dats m 0 c).before 5 t d5) dh dw Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexists _; isplitr; swap; · iexact HS0
        ipureintro
        intro hn
        unfold hBlk
        rw [rowPt_succ t.val hn]
        rw [rowPt_self t h0]
      iexists _; isplitr; swap; · iexact HS1
      ipureintro
      exact slabs_mono m c t.val (by omega) dw hw
    iexact Hg
  isplitl [Ho]; · iexact Ho
  isplitl [H0]; · iexact H0
  isplitl [H1]; · iexact H1
  isplitl [H2]; · iexact H2
  isplitl [H3]; · iexact H3
  isplitl [H4]
  · have e1 : hBlk m c t.val = k0_pay2 (iblk m c 0 t) (iblk m c 1 t) := by unfold hBlk; rw [rowPt_self t h0]
    have e2 : wSlab m c t.val = ld dw (slab (grid0.coords t)) := by exact (hw t (by omega)).symm
    unfold zBlk
    rw [e1, e2]
    iexact H4
  iapply (leaves_5 m c t)
  have e5 : gBlk m c t.val = k0_pay3 (iblk m c 0 t) (iblk m c 1 t) (iblk m c 3 t) := by unfold gBlk; rw [rowPt_self t h0]
  rw [e5]
  iexact H5

set_option maxHeartbeats 3200000 in
theorem sound_D (c : Dev nD) (t : Fin cfg0.N) (h0 : ¬t.val % 10 = 0) (h1 : ¬t.val < 10) :
    bodyPre m c t ⊢ wp frame (wpE (defs₀ (F := F)) Variants.none c none) Set.univ (bodyAt0 t) (fun _ => bodyPost m c t) := by
  have hN : t.val < 80 := lt_of_lt_of_eq t.isLt (show cfg0.N = 80 from N_0)
  unfold bodyPre bodyPost bodyAt0
  simp only [before_0, before_1, before_2, before_3, leaves_0, leaves_1, leaves_2, leaves_3, leaves_4]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  iintro ⟨⟨⟨⟨%dh, %hh, HS0⟩, ⟨%dw, %hw, HS1⟩⟩, Hg⟩, Ho, ⟨%d0, H0⟩, ⟨%d1, H1⟩, ⟨%d2, H2⟩, ⟨%d3, H3⟩, ⟨%d4, H4⟩, ⟨%d5, H5⟩⟩
  rw [before_5 m c t h0]
  obtain rfl := hh h0
  iapply (body_D c (grid0.coords t) _ _ _ _ _ _ _ _ _ _ _ _ _ _ _ _ (fun h => h0 ((cond1_iff t).mp h)) (fun h => h1 ((cond2_iff t).mp h)) (iblk m c 0 t) (iblk m c 1 t) (iblk m c 2 t) (iblk m c 3 t) (gBlk m c t.val) (hBlk m c t.val) dw Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexists _; isplitr; swap; · iexact HS0
        ipureintro
        intro hn
        unfold hBlk
        rw [rowPt_succ t.val hn]
      iexists _; isplitr; swap; · iexact HS1
      ipureintro
      exact slabs_mono m c t.val (by omega) dw hw
    iexact Hg
  isplitl [Ho]; · iexact Ho
  isplitl [H0]; · iexact H0
  isplitl [H1]; · iexact H1
  isplitl [H2]; · iexact H2
  isplitl [H3]; · iexact H3
  isplitl [H4]
  · have e1 : hBlk m c t.val = hBlk m c t.val := by rfl
    have e2 : wSlab m c t.val = ld dw (slab (grid0.coords t)) := by exact (hw t (by omega)).symm
    unfold zBlk
    rw [e1, e2]
    iexact H4
  iapply (leaves_5 m c t)
  iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 10 = 0
  · by_cases h1 : t.val < 10
    · exact sound_A m c t h0 h1
    · exact sound_C m c t h0 h1
  · by_cases h1 : t.val < 10
    · exact sound_B m c t h0 h1
    · exact sound_D m c t h0 h1

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : (Pipeline.ΦA spec0 c : sProp 𝕄) ⊢ (dats m 0 c).Φ 0 := by
  rw [show (dats m 0 c).Φ 0 = Inv m c 0 from rfl, scoped_eq]
  unfold Inv
  iintro ⟨⟨⟨%d, H0⟩, ⟨%e, H1⟩⟩, Hg⟩
  isplitl [H0 H1]
  · isplitl [H0]
    · iexists _; isplitr; swap; · iexact H0
      ipureintro; intro h; exact absurd rfl h
    iexists _; isplitr; swap; · iexact H1
    ipureintro; intro u hu; exact absurd hu (Nat.not_lt_zero _)
  iexact Hg

theorem hout (c : Dev nD) : (dats m 0 c).Φ (Fin.last cfg0.N) ⊢ (Pipeline.ΦA spec0 c : sProp 𝕄) := by
  rw [show (dats m 0 c).Φ (Fin.last cfg0.N) = Inv m c cfg0.N from rfl, scoped_eq]
  unfold Inv
  iintro ⟨⟨⟨%d, %hd, H0⟩, ⟨%e, %he, H1⟩⟩, Hg⟩
  isplitl [H0 H1]
  · isplitl [H0]
    · iexists _; iexact H0
    iexists _; iexact H1
  iexact Hg

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_quiet m ρ)

theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_post m ρ)

/-- The arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (kept m ρ) ((θ_run defs _ _).mono (fun _ h => h.2) (run_quiet m ρ))

end Cert.EvenInprojIdeal.Tracked

end
-- ==== Proof.EvenPure.lean ====
module

public import proofs.«01_k».proof.Proof.Gen.EvenInprojIdeal.Skeleton
public import proofs.«01_k».proof.Proof.Gen.EvenInprojRefIdeal.Read
public import proofs.«01_k».proof.Proof.RowNorm

@[expose] public section

set_option maxRecDepth 16384

noncomputable section

namespace Cert.EvenInprojIdeal.Tracked

open Cert.EvenInprojIdeal Cert.EvenInprojIdeal.Gen Cert.RowNorm Idealize.ShloMosaic Idealize.ShloMosaic.Pointwise

theorem pay1_apply (x : Vec Ideal S1024x2048 .f32) (g : Vec Ideal S1x2048 .f32) (r : Fin 1024) (k : Fin 2048) :
    k0_pay1 (F := Ideal) x g (ix2 r k) = rowNorm (fun k => x (ix2 r k)) (fun k => g (ix2 0 k)) k := by
  pointwise [k0_pay1, rowNorm, meanSq]

theorem pay3_apply (x : Vec Ideal S1024x2048 .f32) (g : Vec Ideal S1x2048 .f32) (w : Vec Ideal S128x2048 .bf16) (r : Fin 1024) (n : Fin 128) :
    k0_pay3 (F := Ideal) x g w (ix2 r n)
      = ∑ k : Fin 2048, rowNorm (fun k => x (ix2 r k)) (fun k => g (ix2 0 k)) k * w (ix2 n k) := by
  pointwise [k0_pay3, pay1_apply]

theorem pay5_apply (h : Vec Ideal S1024x2048 .bf16) (w : Vec Ideal S1x512x2048 .bf16) (r : Fin 1024) (n : Fin 512) :
    k0_pay5 (F := Ideal) h w (ix2 r n) = ∑ k : Fin 2048, h (ix2 r k) * w (ix3 0 n k) := by
  pointwise [k0_pay5]

theorem pay2_apply (x : Vec Ideal S1024x2048 .f32) (g : Vec Ideal S1x2048 .f32) (r : Fin 1024) (k : Fin 2048) :
    k0_pay2 (F := Ideal) x g (ix2 r k) = rowNorm (fun k => x (ix2 r k)) (fun k => g (ix2 0 k)) k := by
  pointwise [k0_pay2, pay1_apply]

theorem pay4_apply (w : Vec Ideal S512x2048 .f32) (n : Fin 512) (k : Fin 2048) :
    k0_pay4 (F := Ideal) w (ix3 0 n k) = w (ix2 n k) := by
  pointwise [k0_pay4]

end Cert.EvenInprojIdeal.Tracked

namespace Cert.EvenInprojRefIdeal.Read

open Cert.EvenInprojRefIdeal Cert.EvenInprojRefIdeal.Gen Cert.RowNorm Idealize.ShloMosaic Idealize.ShloMosaic.Pointwise

theorem v12_at (x0 : (⟨S8192x2048, .f32⟩ : BufTy).Contents (Elt Ideal)) (x1 : (⟨S2048, .f32⟩ : BufTy).Contents (Elt Ideal))
    (r : Fin 8192) (k : Fin 2048) :
    val_main_v12 (F := Ideal) x0 x1 (ix2 r k) = rowNorm (fun k => x0 (ix2 r k)) (fun k => x1 (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, rowNorm, meanSq]

theorem v13_at (x0 : (⟨S8192x2048, .f32⟩ : BufTy).Contents (Elt Ideal)) (x1 : (⟨S2048, .f32⟩ : BufTy).Contents (Elt Ideal))
    (x2 : (⟨S2048x5136, .f32⟩ : BufTy).Contents (Elt Ideal)) (r : Fin 8192) (n : Fin 5136) :
    val_main_v13 (F := Ideal) x0 x1 x2 (ix2 r n)
      = ∑ k : Fin 2048, rowNorm (fun k => x0 (ix2 r k)) (fun k => x1 (ix1 k)) k * x2 (ix2 k n) := by
  pointwise [val_main_v13, v12_at]

theorem v17_at (x0 : (⟨S8192x2048, .f32⟩ : BufTy).Contents (Elt Ideal)) (x1 : (⟨S2048, .f32⟩ : BufTy).Contents (Elt Ideal))
    (x2 : (⟨S2048x5136, .f32⟩ : BufTy).Contents (Elt Ideal)) (r : Fin 8192) (n : Fin 5120) :
    val_main_v17 (F := Ideal) x0 x1 x2 (ix2 r n) = val_main_v13 (F := Ideal) x0 x1 x2 (ix2 r ⟨n.val, by omega⟩) := by
  pointwise [val_main_v17, val_main_v16]

theorem sitofp_zero : (FloatOps.sitofp FTy.f32 (0#32) : Ideal .f32) = 0 := by
  show (((0#32 : BitVec 32).toInt : ℝ) : EReal) = 0
  simp

theorem v15_at (x0 : (⟨S8192x2048, .f32⟩ : BufTy).Contents (Elt Ideal)) (x1 : (⟨S2048, .f32⟩ : BufTy).Contents (Elt Ideal))
    (x2 : (⟨S2048x5136, .f32⟩ : BufTy).Contents (Elt Ideal)) (r : Fin 8192) (n : Fin 128) :
    val_main_v15 (F := Ideal) x0 x1 x2 (ix2 r n)
      = if h : n.val < 16 then val_main_v13 (F := Ideal) x0 x1 x2 (ix2 r ⟨5120 + n.val, by omega⟩) else 0 := by
  pointwise [val_main_v15, val_main_v14, val_main_call0_v0, val_main_c]
  rw [show (FloatOps.sitofp FTy.f32 (0#32) : Ideal .f32) = 0 from sitofp_zero]

end Cert.EvenInprojRefIdeal.Read

end
-- ==== Proof.EvenValue.lean ====
module

public import proofs.«01_k».proof.Proof.EvenRun
public import proofs.«01_k».proof.Proof.EvenPure
public import Idealize.ShloMosaic.Lib.Pipeline.Value

/-! The two results of the input projection, read at an index: the projected rows block by block, and the gate columns
with the rows of zeros appended to their weights. -/

@[expose] public section

set_option maxRecDepth 16384

noncomputable section

namespace Cert.EvenInprojIdeal.Tracked

open Cert.EvenInprojIdeal Cert.EvenInprojIdeal.Gen Cert.RowNorm
open Idealize.ShloMosaic Idealize.ShloMosaic.TcCoe Idealize.ShloMosaic.Pointwise
open Idealize.SL.Sem
open Idealize.ShloMosaic.Pipeline (Dat)

variable (m : (ℓ : Loc nD τ sig) → Buf (Elt Ideal) ℓ) (ρ : Dev nD → PrngReg)

/-- The three arguments of one device. -/
abbrev xIn (c : Dev nD) : Vec Ideal S8192x2048 .f32 := m ((c : Thread nD τ).loc main_arg0)
abbrev gIn (c : Dev nD) : Vec Ideal S2048 .f32 := m ((c : Thread nD τ).loc main_arg1)
abbrev wIn (c : Dev nD) : Vec Ideal S2048x5136 .f32 := m ((c : Thread nD τ).loc main_arg2)

/-! ## What the host prepares -/

theorem V_v0 (c : Dev nD) (n : Fin 5136) (k : Fin 2048) :
    (V m c main_v0 : Vec Ideal S5136x2048 .f32) (ix2 n k) = wIn m c (ix2 k n) := by
  have e : (V m c main_v0 : Vec Ideal S5136x2048 .f32) = transpose S5136x2048 [1, 0] (wIn m c) transposes_S2048x5136_S5136x2048_1_0 := by
    simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results
  rw [e]
  pointwise

theorem V_v4 (c : Dev nD) (k : Fin 2048) :
    (V m c main_v4 : Vec Ideal S1x2048 .f32) (ix2 0 k) = gIn m c (ix1 k) := by
  have e : (V m c main_v4 : Vec Ideal S1x2048 .f32) = shapeCast S1x2048 (gIn m c) shapeCasts_S2048_S1x2048 := by
    simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results
    rfl
  rw [e]
  pointwise

theorem V_v3 (c : Dev nD) (n : Fin 128) (k : Fin 2048) :
    (V m c main_v3 : Vec Ideal S128x2048 .bf16) (ix2 n k)
      = if h : n.val < 16 then wIn m c (ix2 k ⟨5120 + n.val, by omega⟩) else 0 := by
  have e : (V m c main_v3 : Vec Ideal S128x2048 .bf16) = truncf .bf16 (pad S128x2048 ![0, 0] ![112, 0] ![0, 0]
      (extractStridedSlice S16x2048 ![5120, 0] (transpose S5136x2048 [1, 0] (wIn m c) transposes_S2048x5136_S5136x2048_1_0) slices_S5136x2048_S16x2048_5120_0)
      (sitofp .f32 (constantI S_ 32 0#32) : FVec Ideal S_ .f32) pads_S16x2048_S128x2048_01120_000 h_S_ : FVec Ideal S128x2048 .f32) bitsLt_bf16_f32 := by
    simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results
  rw [e]
  pointwise
  rw [Cert.EvenInprojRefIdeal.Read.sitofp_zero]

/-! ## The blocks the body reads -/

theorem index0 : ∀ t : Fin cfg0.N, win0_0.index t 0 * win0_0.size 0 = t.val / 10 * 1024 ∧ win0_0.index t 1 * win0_0.size 1 = 0 :=
  (by decide +kernel : ∀ t : Fin grid0.N, win0_0.index t 0 * win0_0.size 0 = t.val / 10 * 1024 ∧ win0_0.index t 1 * win0_0.size 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, t.val < 10 → win0_2.index t 0 = 512 * t.val ∧ win0_2.index t 1 = 0 :=
  (by decide +kernel : ∀ t : Fin grid0.N, t.val < 10 → win0_2.index t 0 = 512 * t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)

theorem point_lt (t : Fin cfg0.N) : t.val < 80 := by have h := t.isLt; have hN : cfg0.N = 80 := N_0; omega

theorem iblk0_apply (c : Dev nD) (t : Fin cfg0.N) (r : Fin 1024) (k : Fin 2048) :
    (iblk m c 0 t : Vec Ideal S1024x2048 .f32) (ix2 r k)
      = xIn m c (ix2 ⟨t.val / 10 * 1024 + r.val, by have := point_lt t; omega⟩ k) := by
  have e : (iblk m c 0 t : Vec Ideal S1024x2048 .f32) (ix2 r k) = V m c main_arg0 ((win0_0.rect t).emb (ix2 r k)) := rfl
  rw [e, V_main_arg0]
  refine congrArg (xIn m c) (Shape.idx_ext₂ ?_ ?_)
  · refine (win0_0.rect_emb_val t _ 0).trans ?_
    rw [(index0 t).1]; rfl
  · refine (win0_0.rect_emb_val t _ 1).trans ?_
    rw [(index0 t).2]; exact Nat.zero_add _

theorem iblk1_apply (c : Dev nD) (t : Fin cfg0.N) (k : Fin 2048) :
    (iblk m c 1 t : Vec Ideal S1x2048 .f32) (ix2 0 k) = gIn m c (ix1 k) := by
  have e : (iblk m c 1 t : Vec Ideal S1x2048 .f32) (ix2 0 k) = V m c main_v4 ((win0_1.rect t).emb (ix2 0 k)) := rfl
  rw [e, ← V_v4 m c k]
  refine congrArg (V m c main_v4 : Vec Ideal S1x2048 .f32) (Shape.idx_ext₂ ?_ ?_)
  · exact win0_1.rect_emb_val_of_index_zero t 0 (index1 t).1 _
  · exact win0_1.rect_emb_val_of_index_zero t 1 (index1 t).2 _

theorem iblk2_apply (c : Dev nD) (t : Fin cfg0.N) (ht : t.val < 10) (n : Fin 512) (k : Fin 2048) :
    (iblk m c 2 t : Vec Ideal S512x2048 .f32) (ix2 n k)
      = wIn m c (ix2 k ⟨512 * t.val + n.val, by omega⟩) := by
  have e : (iblk m c 2 t : Vec Ideal S512x2048 .f32) (ix2 n k) = V m c main_v0 ((win0_2.rect t).emb (ix2 n k)) := rfl
  rw [e, ← V_v0 m c _ k]
  refine congrArg (V m c main_v0 : Vec Ideal S5136x2048 .f32) (Shape.idx_ext₂ ?_ ?_)
  · refine (win0_2.rect_emb_val_off t _ 0).trans ?_
    show win0_2.index t 0 + n.val = 512 * t.val + n.val
    rw [(index2 t ht).1]
  · exact win0_2.rect_emb_val_of_index_zero t 1 (index2 t ht).2 _

theorem iblk3_apply (c : Dev nD) (t : Fin cfg0.N) (n : Fin 128) (k : Fin 2048) :
    (iblk m c 3 t : Vec Ideal S128x2048 .bf16) (ix2 n k)
      = if h : n.val < 16 then wIn m c (ix2 k ⟨5120 + n.val, by omega⟩) else 0 := by
  have e : (iblk m c 3 t : Vec Ideal S128x2048 .bf16) (ix2 n k) = V m c main_v3 ((win0_3.rect t).emb (ix2 n k)) := rfl
  rw [e, ← V_v3 m c n k]
  refine congrArg (V m c main_v3 : Vec Ideal S128x2048 .bf16) (Shape.idx_ext₂ ?_ ?_)
  · exact win0_3.rect_emb_val_of_index_zero t 0 (index3 t).1 _
  · exact win0_3.rect_emb_val_of_index_zero t 1 (index3 t).2 _

/-! ## The two results -/

/-- The reference's own terms at this device's arguments. -/
abbrev resZ (c : Dev nD) : Vec Ideal S8192x5120 .bf16 := Cert.EvenInprojRefIdeal.Read.val_main_v17 (F := Ideal) (xIn m c) (gIn m c) (wIn m c)
abbrev resG (c : Dev nD) : Vec Ideal S8192x128 .f32 := Cert.EvenInprojRefIdeal.Read.val_main_v15 (F := Ideal) (xIn m c) (gIn m c) (wIn m c)

theorem rowPt_div (t : Fin cfg0.N) : (rowPt t.val).val / 10 = t.val / 10 := by
  have := point_lt t
  show (t.val / 10 * 10 % 80) / 10 = t.val / 10
  omega

theorem row_eq (c : Dev nD) (t : Fin cfg0.N) (r : Fin 1024) :
    (fun k => (iblk m c 0 (rowPt t.val) : Vec Ideal S1024x2048 .f32) (ix2 r k))
      = fun k : Fin 2048 => xIn m c (ix2 ⟨t.val / 10 * 1024 + r.val, by have := point_lt t; omega⟩ k) :=
  funext fun k => (iblk0_apply m c (rowPt t.val) r k).trans
    (congrArg (xIn m c) (Shape.idx_ext₂ (by show (rowPt t.val).val / 10 * 1024 + r.val = t.val / 10 * 1024 + r.val; rw [rowPt_div]) rfl))

theorem scale_eq (c : Dev nD) (t : Fin cfg0.N) :
    (fun k => (iblk m c 1 t : Vec Ideal S1x2048 .f32) (ix2 0 k)) = fun k : Fin 2048 => gIn m c (ix1 k) :=
  funext fun k => iblk1_apply m c t k

theorem z_at (c : Dev nD) (t : Fin cfg0.N) (r : Fin 1024) (n : Fin 512) :
    zBlk m c t.val (ix2 r n)
      = resZ m c (ix2 ⟨t.val / 10 * 1024 + r.val, by have := point_lt t; omega⟩ ⟨t.val % 10 * 512 + n.val, by omega⟩) := by
  unfold zBlk hBlk wSlab
  rw [pay5_apply, resZ, Cert.EvenInprojRefIdeal.Read.v17_at, Cert.EvenInprojRefIdeal.Read.v13_at]
  refine Finset.sum_congr rfl fun k _ => ?_
  rw [pay2_apply, pay4_apply, row_eq m c t r, scale_eq]
  refine congrArg _ ((iblk2_apply m c (colPt t.val) (Nat.mod_lt _ (by decide)) n k).trans (congrArg (wIn m c) (Shape.idx_ext₂ rfl ?_)))
  show 512 * (t.val % 10) + n.val = t.val % 10 * 512 + n.val
  rw [Nat.mul_comm]

theorem g_at (c : Dev nD) (t : Fin cfg0.N) (r : Fin 1024) (n : Fin 128) :
    gBlk m c t.val (ix2 r n) = resG m c (ix2 ⟨t.val / 10 * 1024 + r.val, by have := point_lt t; omega⟩ n) := by
  unfold gBlk
  rw [pay3_apply, resG, Cert.EvenInprojRefIdeal.Read.v15_at, row_eq m c t r, scale_eq]
  simp only [iblk3_apply]
  split
  · next h =>
    rw [Cert.EvenInprojRefIdeal.Read.v13_at]
  · next h => simp only [mul_zero, Finset.sum_const_zero]

theorem index4 : ∀ t : Fin cfg0.N, win0_4.index t 0 * win0_4.size 0 = t.val / 10 * 1024 ∧ win0_4.index t 1 * win0_4.size 1 = t.val % 10 * 512 :=
  (by decide +kernel : ∀ t : Fin grid0.N, win0_4.index t 0 * win0_4.size 0 = t.val / 10 * 1024 ∧ win0_4.index t 1 * win0_4.size 1 = t.val % 10 * 512)
theorem index5 : ∀ t : Fin cfg0.N, win0_5.index t 0 * win0_5.size 0 = t.val / 10 * 1024 ∧ win0_5.index t 1 * win0_5.size 1 = 0 :=
  (by decide +kernel : ∀ t : Fin grid0.N, win0_5.index t 0 * win0_5.size 0 = t.val / 10 * 1024 ∧ win0_5.index t 1 * win0_5.size 1 = 0)

theorem flushed_4 (c : Dev nD) (t : Fin cfg0.N) :
    (dats m 0 c).flushed 4 t = ((cfg0.win 4).blk t).view.read (Elt Ideal) (resZ m c) := by
  show (cfg0.win 4).cut (grid0.coords t) ((dats m 0 c).after 4 t) = _
  rw [after_4]
  funext j
  show zBlk m c t.val j = resZ m c ((win0_4.rect t).emb j)
  refine (congrArg (zBlk m c t.val) (ValueIdx.eq_ix2 (n0 := 1024) (n1 := 512) j)).trans ((z_at m c t (j 0) (j 1)).trans (congrArg (resZ m c) (Shape.idx_ext₂ ?_ ?_)))
  · refine Eq.trans ?_ (win0_4.rect_emb_val t _ 0).symm
    rw [(index4 t).1]; rfl
  · refine Eq.trans ?_ (win0_4.rect_emb_val t _ 1).symm
    rw [(index4 t).2]; rfl

theorem flushed_5 (c : Dev nD) (t : Fin cfg0.N) :
    (dats m 0 c).flushed 5 t = ((cfg0.win 5).blk t).view.read (Elt Ideal) (resG m c) := by
  show (cfg0.win 5).cut (grid0.coords t) ((dats m 0 c).after 5 t) = _
  rw [after_5]
  funext j
  show gBlk m c t.val j = resG m c ((win0_5.rect t).emb j)
  refine (congrArg (gBlk m c t.val) (ValueIdx.eq_ix2 (n0 := 1024) (n1 := 128) j)).trans ((g_at m c t (j 0) (j 1)).trans (congrArg (resG m c) (Shape.idx_ext₂ ?_ ?_)))
  · refine Eq.trans ?_ (win0_5.rect_emb_val t _ 0).symm
    rw [(index5 t).1]; rfl
  · refine Eq.trans ?_ (win0_5.rect_emb_val t _ 1).symm
    rw [(index5 t).2]; exact (Nat.zero_add _).symm

theorem cover_4 (i : S8192x5120.Idx) : ∃ t : Fin cfg0.N, (cfg0.win 4).flush t = true ∧ i ∈ ((cfg0.win 4).blk t).view.set := by
  have h0 : (i 0 : Nat) < 8192 := (i 0).isLt
  have h1 : (i 1 : Nat) < 5120 := (i 1).isLt
  have hN : cfg0.N = 80 := N_0
  refine ⟨⟨(i 0 : Nat) / 1024 * 10 + (i 1 : Nat) / 512, by omega⟩, flush0_4 _, ?_⟩
  generalize ht : (⟨(i 0 : Nat) / 1024 * 10 + (i 1 : Nat) / 512, _⟩ : Fin cfg0.N) = t
  have hv : t.val = (i 0 : Nat) / 1024 * 10 + (i 1 : Nat) / 512 := by rw [← ht]
  show i ∈ ((View.whole main_v5_0).slice (win0_4.rect t)).set
  rw [View.set_slice_whole, Rect.mem_set_unit]
  intro a
  match a with
  | ⟨0, _⟩ =>
    show win0_4.index t 0 * win0_4.size 0 ≤ (i 0 : Nat) ∧ (i 0 : Nat) < win0_4.index t 0 * win0_4.size 0 + 1024
    rw [(index4 t).1]; omega
  | ⟨1, _⟩ =>
    show win0_4.index t 1 * win0_4.size 1 ≤ (i 1 : Nat) ∧ (i 1 : Nat) < win0_4.index t 1 * win0_4.size 1 + 512
    rw [(index4 t).2]; omega

theorem cover_5 (i : S8192x128.Idx) : ∃ t : Fin cfg0.N, (cfg0.win 5).flush t = true ∧ i ∈ ((cfg0.win 5).blk t).view.set := by
  have h0 : (i 0 : Nat) < 8192 := (i 0).isLt
  have h1 : (i 1 : Nat) < 128 := (i 1).isLt
  have hN : cfg0.N = 80 := N_0
  refine ⟨⟨(i 0 : Nat) / 1024 * 10 + 9, by omega⟩, (flush0_5 _).mpr (by show ((i 0 : Nat) / 1024 * 10 + 9) % 10 = 9; omega), ?_⟩
  generalize ht : (⟨(i 0 : Nat) / 1024 * 10 + 9, _⟩ : Fin cfg0.N) = t
  have hv : t.val = (i 0 : Nat) / 1024 * 10 + 9 := by rw [← ht]
  show i ∈ ((View.whole main_v5_1).slice (win0_5.rect t)).set
  rw [View.set_slice_whole, Rect.mem_set_unit]
  intro a
  match a with
  | ⟨0, _⟩ =>
    show win0_5.index t 0 * win0_5.size 0 ≤ (i 0 : Nat) ∧ (i 0 : Nat) < win0_5.index t 0 * win0_5.size 0 + 1024
    rw [(index5 t).1]; omega
  | ⟨1, _⟩ =>
    show win0_5.index t 1 * win0_5.size 1 ≤ (i 1 : Nat) ∧ (i 1 : Nat) < win0_5.index t 1 * win0_5.size 1 + 128
    rw [(index5 t).2]; omega

theorem final_4 (c : Dev nD) : (dats m 0 c).arrAt 4 cfg0.N = resZ m c :=
  (dats m 0 c).arrAt_eq_of_cover 4 (resZ m c) (fun t _ => flushed_4 m c t) cover_4

theorem final_5 (c : Dev nD) : (dats m 0 c).arrAt 5 cfg0.N = resG m c :=
  (dats m 0 c).arrAt_eq_of_cover 5 (resG m c) (fun t _ => flushed_5 m c t) cover_5

/-- The run with its results read: both are the reference's terms, and the arguments are kept. -/
theorem run : θ_run defs (onTc (τ := τ) (main (F := Ideal))) ⟨m, fun _ => 0, ρ⟩ fun r => ∀ c : Dev nD,
      r.2.mem ((c : Thread nD τ).loc main_v5_0) = resZ m c
      ∧ r.2.mem ((c : Thread nD τ).loc main_v5_1) = resG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 4).trans (final_4 m c), ((h.1 c).1 5).trans (final_5 m c), h.2 c⟩)
    (θ_run_and (run_post m ρ) (kept m ρ))

end Cert.EvenInprojIdeal.Tracked

end
-- ==== Proof.EvenClaim.lean ====
module

public import proofs.«01_k».proof.Defs
public import proofs.«01_k».proof.Proof.EvenValue
public import proofs.«01_k».proof.Proof.Gen.EvenInproj.Points
public import proofs.«01_k».proof.Proof.Gen.EvenInprojRefIdeal.Run
public import Idealize.ShloMosaic.Lib.Quiescent

/-! The five claims of the input projection. -/

@[expose] public section

set_option maxRecDepth 16384

noncomputable section

namespace Cert.Proof

open Idealize.ShloMosaic Idealize.ShloMosaic.TcCoe Idealize.SL.Sem

/-- The program's label table over bits is the idealized one's: the two have the same text. -/
theorem defs_even : Cert.EvenInproj.defs (F := Bits) = Cert.EvenInprojIdeal.defs (F := Bits) := by
  refine congrArg (Pipeline.defs _) (congrArg Defs.onTc (funext fun l => ?_))
  match l with
  | 0 => exact funext fun ⟨t, s⟩ => rfl
  | ⟨n + 1, h⟩ => exact absurd h (by omega)

theorem quiescent_even : Cert.quiescent_EvenInproj (hEvenInproj := Cert.EvenInproj.Gen.facts) :=
  by
  intro m ρ _
  rw [defs_even]
  exact Cert.EvenInprojIdeal.Tracked.frame (F := Bits) m ρ

theorem quiescent_evenIdeal : Cert.quiescent_EvenInprojIdeal (hEvenInprojIdeal := Cert.EvenInprojIdeal.Gen.facts) :=
  fun m ρ _ => Cert.EvenInprojIdeal.Tracked.frame m ρ

theorem quiescent_evenRef : Cert.quiescent_EvenInprojRefIdeal (hEvenInprojRefIdeal := Cert.EvenInprojRefIdeal.Gen.facts) :=
  fun m ρ _ => (θ_run Cert.EvenInprojRefIdeal.defs _ _).mono
    (fun r h => ⟨fun c => (h c).2.2, sem_eq_zero_of_no_sems rfl r.2⟩) (Cert.EvenInprojRefIdeal.Value.run m ρ)

theorem algebraic_even : Cert.algebraic_EvenInprojIdeal_EvenInprojRefIdeal
    (hEvenInprojIdeal := Cert.EvenInprojIdeal.Gen.facts) (hEvenInprojRefIdeal := Cert.EvenInprojRefIdeal.Gen.facts) :=
  fun m ρ m' ρ' _ hag => ⟨fun c => Cert.EvenInprojIdeal.Tracked.resZ m c, fun c => Cert.EvenInprojIdeal.Tracked.resG m c,
    Cert.EvenInprojIdeal.Tracked.run m ρ,
    (θ_run Cert.EvenInprojRefIdeal.defs _ _).mono
      (fun r h c => ⟨(h c).1.trans (by
          rw [(hag c).1, (hag c).2.1, (hag c).2.2]
          exact Cert.EvenInprojRefIdeal.Read.val_main_v17_eq (F := Ideal) _ _ _),
        (h c).2.1.trans (by
          rw [(hag c).1, (hag c).2.1, (hag c).2.2]
          exact Cert.EvenInprojRefIdeal.Read.val_main_v15_eq (F := Ideal) _ _ _),
        (h c).2.2⟩)
      (Cert.EvenInprojRefIdeal.Value.run m' ρ')⟩

end Cert.Proof

end
-- ==== Proof.OutprojCase.lean ====
module

public import proofs.«01_k».proof.Proof.Gen.OutprojIdeal.Value
public import Idealize.ShloMosaic.Lib.VecWindow

/-! What each case of the output projection's body leaves in the output's staging buffer and in the rounded weights' scratch,
    as payloads of what the case reads. -/

@[expose] public section

set_option maxRecDepth 16384

noncomputable section

namespace Cert.OutprojIdeal.Fold

open Cert.OutprojIdeal Cert.OutprojIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem z2 : (![0, 0] : Fin 2 → Nat) = fun _ => 0 := funext fun a => by fin_cases a <;> rfl

/-- The upper half of the rounded weights. -/
abbrev top (w : Vec F S2048x1024 .bf16) : Vec F S1024x1024 .bf16 :=
  View.ld w (Rect.unit (s := S2048x1024) ![0, 0] S1024x1024.size inb_S2048x1024_S1024x1024_0_0)
/-- The lower half of the rounded weights. -/
abbrev bot (w : Vec F S2048x1024 .bf16) : Vec F S1024x1024 .bf16 :=
  View.ld w (Rect.unit (s := S2048x1024) ![1024, 0] S1024x1024.size inb_S2048x1024_S1024x1024_1024_0)

/-- A load of a part of what one store of the whole left reads that part of what was stored. -/
theorem readCov_part {sg : RefSig} {κ : Kind} {sp : Space} (v : View sg κ sp S2048x1024 .bf16) (w : Vec F S2048x1024 .bf16)
    (inb : ∀ a, (![0, 0] : Fin 2 → Nat) a + S2048x1024.size a ≤ S2048x1024.size a) (r : Rect S2048x1024) :
    v.readCov [⟨Rect.unit (s := S2048x1024) ![0, 0] S2048x1024.size inb, w⟩] r.toLoadRect = View.ld w r := by
  rw [View.readCov_eq_canon', View.canon_unit_zero (S := S2048x1024) z2]

theorem sout_A (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1024x1024 .f32) (harg6 : arg6.IsWhole) (arg7 : Memref sig .tc .vmem S2048x1024 .bf16) (harg7 : arg7.IsWhole) (hc0 : cond0_0 i)
    (x0 : Vec F S1024x1024 .f32) (x1 : Vec F S1024x1024 .bf16) (x2 : Vec F S1024x1024 .bf16) (x3 : Vec F S2048x1024 .f32) :
    sout0_A_0 c i arg2 harg2 arg3 harg3 arg4 harg4 arg5 harg5 arg6 harg6 arg7 harg7 hc0 x0 x1 x2 x3 = k0_pay1 x3 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero (S := S2048x1024) z2]
  simp only [View.readAt_eq_ld, harg2.read_unread, harg3.read_unread, harg4.read_unread, harg5.read_unread, harg6.read_unread, harg7.read_unread, View.ld_unit_zero (S := S1024x1024) z2, View.ld_unit_zero (S := S2048x1024) z2]

theorem out_A (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1024x1024 .f32) (harg6 : arg6.IsWhole) (arg7 : Memref sig .tc .vmem S2048x1024 .bf16) (harg7 : arg7.IsWhole) (hc0 : cond0_0 i)
    (x0 : Vec F S1024x1024 .f32) (x1 : Vec F S1024x1024 .bf16) (x2 : Vec F S1024x1024 .bf16) (x3 : Vec F S2048x1024 .f32) :
    out0_A_4 c i arg2 harg2 arg3 harg3 arg4 harg4 arg5 harg5 arg6 harg6 arg7 harg7 hc0 x0 x1 x2 x3 = k0_pay2 x0 x1 (top (k0_pay1 x3)) x2 (bot (k0_pay1 x3)) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero (S := S1024x1024) z2]
  rw [readCov_part, readCov_part]
  simp only [View.readAt_eq_ld, harg2.read_unread, harg3.read_unread, harg4.read_unread, harg5.read_unread, harg6.read_unread, harg7.read_unread, View.ld_unit_zero (S := S1024x1024) z2, View.ld_unit_zero (S := S2048x1024) z2]

theorem out_B (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1024x1024 .f32) (harg6 : arg6.IsWhole) (arg7 : Memref sig .tc .vmem S2048x1024 .bf16) (harg7 : arg7.IsWhole) (hc0 : ¬cond0_0 i)
    (x0 : Vec F S1024x1024 .f32) (x1 : Vec F S1024x1024 .bf16) (x2 : Vec F S1024x1024 .bf16) (x3 : Vec F S2048x1024 .f32) (xs : Vec F S2048x1024 .bf16) :
    out0_B_4 c i arg2 harg2 arg3 harg3 arg4 harg4 arg5 harg5 arg6 harg6 arg7 harg7 hc0 x0 x1 x2 x3 xs = k0_pay2 x0 x1 (top xs) x2 (bot xs) := by
  unfold out0_B_4
  rw [View.read_writes_eq_canon _ _ _ (cover0_B_4 c i arg2 harg2 arg3 harg3 arg4 harg4 arg5 harg5 arg6 harg6 arg7 harg7 hc0 x0 x1 x2 x3 xs)]
  unfold kernelRun0_B
  dsimp only
  rw [View.canon_unit_zero (S := S1024x1024) z2]
  simp only [View.readAt_eq_ld, harg2.read_unread, harg3.read_unread, harg4.read_unread, harg5.read_unread, harg6.read_unread, harg7.read_unread, View.ld_unit_zero (S := S1024x1024) z2, View.ld_unit_zero (S := S2048x1024) z2]

theorem sout_B (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1024x1024 .f32) (harg6 : arg6.IsWhole) (arg7 : Memref sig .tc .vmem S2048x1024 .bf16) (harg7 : arg7.IsWhole) (hc0 : ¬cond0_0 i)
    (x0 : Vec F S1024x1024 .f32) (x1 : Vec F S1024x1024 .bf16) (x2 : Vec F S1024x1024 .bf16) (x3 : Vec F S2048x1024 .f32) (xs : Vec F S2048x1024 .bf16) :
    sout0_B_0 c i arg2 harg2 arg3 harg3 arg4 harg4 arg5 harg5 arg6 harg6 arg7 harg7 hc0 x0 x1 x2 x3 xs = xs := rfl

/-- The first point of a block of columns: the weights rounded, and the product with them. -/
theorem st_A (c : Dev nD) (t : Fin cfg0.N) (acc : Vec F S1024x1024 .f32 × Vec F S2048x1024 .bf16) (h0 : t.val % 8 = 0) :
    Value.stAt0 m c t.val t.isLt acc = (k0_pay2 (iblk m c 0 t) (iblk m c 1 t) (top (k0_pay1 (iblk m c 3 t))) (iblk m c 2 t) (bot (k0_pay1 (iblk m c 3 t))), (k0_pay1 (iblk m c 3 t))) := by
  rw [Value.stAt0_A m c t acc h0]
  rw [out_A, sout_A]

/-- A later point: the product with the weights the point before left. -/
theorem st_B (c : Dev nD) (t : Fin cfg0.N) (acc : Vec F S1024x1024 .f32 × Vec F S2048x1024 .bf16) (h0 : ¬t.val % 8 = 0) :
    Value.stAt0 m c t.val t.isLt acc = (k0_pay2 (iblk m c 0 t) (iblk m c 1 t) (top acc.2) (iblk m c 2 t) (bot acc.2), acc.2) := by
  rw [Value.stAt0_B m c t acc h0]
  rw [out_B, sout_B]

end Cert.OutprojIdeal.Fold

end
-- ==== Proof.OutprojValue.lean ====
module

public import proofs.«01_k».proof.Proof.OutprojCase
public import proofs.«01_k».proof.Proof.RowNorm
public import proofs.«01_k».proof.Proof.Gen.OutprojRefIdeal.Read

/-! The output projection's result: the rows plus the two mixers' rows times the upper and the lower half of the weights. -/

@[expose] public section

set_option maxRecDepth 16384

noncomputable section

namespace Cert.OutprojIdeal.Fold

open Cert.OutprojIdeal Cert.OutprojIdeal.Gen
open Idealize.ShloMosaic Idealize.ShloMosaic.TcCoe Idealize.ShloMosaic.Pointwise
open Idealize.SL.Sem
open Idealize.ShloMosaic.Pipeline (Dat)

/-- The row of the two mixers side by side. -/
def side (a b : Fin 1024 → EReal) (k : Fin 2048) : EReal := if h : k.val < 1024 then a ⟨k.val, h⟩ else b ⟨k.val - 1024, by omega⟩

/-- A sum over both halves is the sum over the first and the sum over the second. -/
theorem sum_side (a b : Fin 1024 → EReal) (w : Fin 2048 → EReal) :
    ∑ k : Fin 2048, side a b k * w k
      = (∑ k : Fin 1024, a k * w ⟨k.val, by omega⟩) + ∑ k : Fin 1024, b k * w ⟨1024 + k.val, by omega⟩ := by
  refine (Fin.sum_univ_add (a := 1024) (b := 1024) (fun k => side a b k * w k)).trans (congrArg₂ (· + ·) ?_ ?_)
  · refine Finset.sum_congr rfl fun k _ => congrArg₂ (· * ·) ?_ rfl
    exact dif_pos k.isLt
  · refine Finset.sum_congr rfl fun k _ => congrArg₂ (· * ·) ?_ rfl
    refine (dif_neg (by show ¬ 1024 + k.val < 1024; omega)).trans (congrArg b (Fin.ext ?_))
    show 1024 + k.val - 1024 = k.val
    omega

theorem pay1_apply (w : Vec Ideal S2048x1024 .f32) (k : Fin 2048) (n : Fin 1024) :
    k0_pay1 (F := Ideal) w (ix2 k n) = w (ix2 k n) := by
  pointwise [k0_pay1]

theorem pay2_apply (x : Vec Ideal S1024x1024 .f32) (a wa b wb : Vec Ideal S1024x1024 .bf16) (r n : Fin 1024) :
    k0_pay2 (F := Ideal) x a wa b wb (ix2 r n)
      = x (ix2 r n) + (∑ k : Fin 1024, a (ix2 r k) * wa (ix2 k n)) + ∑ k : Fin 1024, b (ix2 r k) * wb (ix2 k n) := by
  pointwise [k0_pay2]

theorem top_apply (w : Vec Ideal S2048x1024 .bf16) (k n : Fin 1024) : top w (ix2 k n) = w (ix2 ⟨k.val, by omega⟩ n) :=
  congrArg w (Shape.idx_ext₂ (by show 0 + 1 * k.val = k.val; omega) (by show 0 + 1 * n.val = n.val; omega))

theorem bot_apply (w : Vec Ideal S2048x1024 .bf16) (k n : Fin 1024) : bot w (ix2 k n) = w (ix2 ⟨1024 + k.val, by omega⟩ n) :=
  congrArg w (Shape.idx_ext₂ (by show 1024 + 1 * k.val = 1024 + k.val; omega) (by show 0 + 1 * n.val = n.val; omega))

theorem ref_at (x0 : (⟨Cert.OutprojRefIdeal.S8192x2048, .f32⟩ : BufTy).Contents (Elt Ideal)) (x1 x2 : (⟨Cert.OutprojRefIdeal.S8192x1024, .bf16⟩ : BufTy).Contents (Elt Ideal))
    (x3 : (⟨Cert.OutprojRefIdeal.S2048x2048, .f32⟩ : BufTy).Contents (Elt Ideal)) (r : Fin 8192) (n : Fin 2048) :
    Cert.OutprojRefIdeal.Read.val_main_v4 (F := Ideal) x0 x1 x2 x3 (ix2 r n)
      = x0 (ix2 r n) + ∑ k : Fin 2048, side (fun k => x1 (ix2 r k)) (fun k => x2 (ix2 r k)) k * x3 (ix2 k n) := by
  pointwise [Cert.OutprojRefIdeal.Read.val_main_v4, Cert.OutprojRefIdeal.Read.val_main_v3, Cert.OutprojRefIdeal.Read.val_main_v2,
    Cert.OutprojRefIdeal.Read.val_main_v1, Cert.OutprojRefIdeal.Read.val_main_v0, side]

variable (m : (ℓ : Loc nD τ sig) → Buf (Elt Ideal) ℓ) (ρ : Dev nD → PrngReg)

/-- The arguments of one device. -/
abbrev xIn (c : Dev nD) : Vec Ideal S8192x2048 .f32 := m ((c : Thread nD τ).loc main_arg0)
abbrev aIn (c : Dev nD) : Vec Ideal S8192x1024 .bf16 := m ((c : Thread nD τ).loc main_arg1)
abbrev bIn (c : Dev nD) : Vec Ideal S8192x1024 .bf16 := m ((c : Thread nD τ).loc main_arg2)
abbrev wIn (c : Dev nD) : Vec Ideal S2048x2048 .f32 := m ((c : Thread nD τ).loc main_arg3)

theorem point_lt (t : Fin cfg0.N) : t.val < 16 := by have h := t.isLt; have hN : cfg0.N = 16 := N_0; omega

theorem index0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem index1 : ∀ t : Fin cfg0.N, win0_1.index t 0 = t.val % 8 ∧ win0_1.index t 1 = 0 :=
  (by decide +kernel : ∀ t : Fin grid0.N, win0_1.index t 0 = t.val % 8 ∧ win0_1.index t 1 = 0)
theorem index2 : ∀ t : Fin cfg0.N, win0_2.index t 0 = t.val % 8 ∧ win0_2.index t 1 = 0 :=
  (by decide +kernel : ∀ t : Fin grid0.N, win0_2.index t 0 = t.val % 8 ∧ win0_2.index t 1 = 0)
theorem index3 : ∀ t : Fin cfg0.N, win0_3.index t 0 = 0 ∧ win0_3.index t 1 = t.val / 8 :=
  (by decide +kernel : ∀ t : Fin grid0.N, win0_3.index t 0 = 0 ∧ win0_3.index t 1 = t.val / 8)

theorem iblk0_apply (c : Dev nD) (t : Fin cfg0.N) (r n : Fin 1024) :
    (iblk m c 0 t : Vec Ideal S1024x1024 .f32) (ix2 r n)
      = xIn m c (ix2 ⟨t.val % 8 * 1024 + r.val, by omega⟩ ⟨t.val / 8 * 1024 + n.val, by have := point_lt t; omega⟩) := by
  have e : (iblk m c 0 t : Vec Ideal S1024x1024 .f32) (ix2 r n) = V m c main_arg0 ((win0_0.rect t).emb (ix2 r n)) := rfl
  rw [e, V_main_arg0]
  refine congrArg (xIn m c) (Shape.idx_ext₂ ?_ ?_)
  · refine (win0_0.rect_emb_val t _ 0).trans ?_
    rw [(index0 t).1]; rfl
  · refine (win0_0.rect_emb_val t _ 1).trans ?_
    rw [(index0 t).2]; rfl

theorem iblk1_apply (c : Dev nD) (t : Fin cfg0.N) (r k : Fin 1024) :
    (iblk m c 1 t : Vec Ideal S1024x1024 .bf16) (ix2 r k) = aIn m c (ix2 ⟨t.val % 8 * 1024 + r.val, by omega⟩ k) := by
  have e : (iblk m c 1 t : Vec Ideal S1024x1024 .bf16) (ix2 r k) = V m c main_arg1 ((win0_1.rect t).emb (ix2 r k)) := rfl
  rw [e, V_main_arg1]
  refine congrArg (aIn m c) (Shape.idx_ext₂ ?_ ?_)
  · refine (win0_1.rect_emb_val t _ 0).trans ?_
    rw [(index1 t).1]; rfl
  · exact win0_1.rect_emb_val_of_index_zero t 1 (index1 t).2 _

theorem iblk2_apply (c : Dev nD) (t : Fin cfg0.N) (r k : Fin 1024) :
    (iblk m c 2 t : Vec Ideal S1024x1024 .bf16) (ix2 r k) = bIn m c (ix2 ⟨t.val % 8 * 1024 + r.val, by omega⟩ k) := by
  have e : (iblk m c 2 t : Vec Ideal S1024x1024 .bf16) (ix2 r k) = V m c main_arg2 ((win0_2.rect t).emb (ix2 r k)) := rfl
  rw [e, V_main_arg2]
  refine congrArg (bIn m c) (Shape.idx_ext₂ ?_ ?_)
  · refine (win0_2.rect_emb_val t _ 0).trans ?_
    rw [(index2 t).1]; rfl
  · exact win0_2.rect_emb_val_of_index_zero t 1 (index2 t).2 _

theorem iblk3_apply (c : Dev nD) (t : Fin cfg0.N) (k : Fin 2048) (n : Fin 1024) :
    (iblk m c 3 t : Vec Ideal S2048x1024 .f32) (ix2 k n) = wIn m c (ix2 k ⟨t.val / 8 * 1024 + n.val, by have := point_lt t; omega⟩) := by
  have e : (iblk m c 3 t : Vec Ideal S2048x1024 .f32) (ix2 k n) = V m c main_arg3 ((win0_3.rect t).emb (ix2 k n)) := rfl
  rw [e, V_main_arg3]
  refine congrArg (wIn m c) (Shape.idx_ext₂ ?_ ?_)
  · exact win0_3.rect_emb_val_of_index_zero t 0 (index3 t).1 _
  · refine (win0_3.rect_emb_val t _ 1).trans ?_
    rw [(index3 t).2]; rfl

/-! ## The weights' scratch and the output's buffer, point by point -/

/-- The reference's own term at this device's arguments. -/
abbrev res (c : Dev nD) : Vec Ideal S8192x2048 .f32 :=
  Cert.OutprojRefIdeal.Read.val_main_v4 (F := Ideal) (xIn m c) (aIn m c) (bIn m c) (wIn m c)

/-- The scratch after point `t` holds the columns of `t`'s block. -/
def Held (c : Dev nD) (t : Fin cfg0.N) (w : Vec Ideal S2048x1024 .bf16) : Prop :=
  ∀ (k : Fin 2048) (n : Fin 1024), w (ix2 k n) = wIn m c (ix2 k ⟨t.val / 8 * 1024 + n.val, by have := point_lt t; omega⟩)

theorem held_first (c : Dev nD) (t : Fin cfg0.N) : Held m c t (k0_pay1 (F := Ideal) (iblk m c 3 t)) := fun k n => by
  rw [pay1_apply, iblk3_apply]

/-- What a point writes, from a scratch that holds its columns. -/
theorem out_at (c : Dev nD) (t : Fin cfg0.N) (w : Vec Ideal S2048x1024 .bf16) (hw : Held m c t w) (r n : Fin 1024) :
    k0_pay2 (F := Ideal) (iblk m c 0 t) (iblk m c 1 t) (top w) (iblk m c 2 t) (bot w) (ix2 r n)
      = res m c (ix2 ⟨t.val % 8 * 1024 + r.val, by omega⟩ ⟨t.val / 8 * 1024 + n.val, by have := point_lt t; omega⟩) := by
  rw [pay2_apply, res, ref_at, sum_side, iblk0_apply, add_assoc]
  refine congrArg (xIn m c _ + ·) (congrArg₂ (· + ·) ?_ ?_)
  · refine Finset.sum_congr rfl fun k _ => ?_
    rw [iblk1_apply, top_apply, hw]
  · refine Finset.sum_congr rfl fun k _ => ?_
    rw [iblk2_apply, bot_apply, hw]

theorem outs_at (c : Dev nD) : ∀ (n : ℕ) (hn : n < cfg0.N), Held m c ⟨n, hn⟩ (outsAt0 m c n hn).2
    ∧ ∀ r q : Fin 1024, (outsAt0 m c n hn).1 (ix2 r q)
      = res m c (ix2 ⟨n % 8 * 1024 + r.val, by omega⟩ ⟨n / 8 * 1024 + q.val, by have h : n < 16 := point_lt ⟨n, hn⟩; omega⟩)
  | 0, hn => by
    have e := (Value.outsAt0_zero m c hn).trans (st_A m c ⟨0, hn⟩ _ rfl)
    have hw := held_first m c ⟨0, hn⟩
    rw [e]
    dsimp only
    exact ⟨hw, fun r q => out_at m c ⟨0, hn⟩ _ hw r q⟩
  | n + 1, hn => by
    obtain ⟨i2, -⟩ := outs_at c n (Nat.lt_of_succ_lt hn)
    by_cases h0 : (n + 1) % 8 = 0
    · have e := (Value.outsAt0_succ m c n hn).trans (st_A m c ⟨n + 1, hn⟩ _ h0)
      have hw := held_first m c ⟨n + 1, hn⟩
      rw [e]
      dsimp only
      exact ⟨hw, fun r q => out_at m c ⟨n + 1, hn⟩ _ hw r q⟩
    · have e := (Value.outsAt0_succ m c n hn).trans (st_B m c ⟨n + 1, hn⟩ _ h0)
      have hw : Held m c ⟨n + 1, hn⟩ (outsAt0 m c n (Nat.lt_of_succ_lt hn)).2 := fun k q =>
        (i2 k q).trans (congrArg (wIn m c) (Shape.idx_ext₂ rfl (by
          show n / 8 * 1024 + q.val = (n + 1) / 8 * 1024 + q.val
          rw [show (n + 1) / 8 = n / 8 by omega])))
      rw [e]
      dsimp only
      exact ⟨hw, fun r q => out_at m c ⟨n + 1, hn⟩ _ hw r q⟩

theorem result_eq (c : Dev nD) : Value.G4 m c = res m c := by
  funext y
  have h0 : (y 0).val < 8192 := (y 0).isLt
  have h1 : (y 1).val < 2048 := (y 1).isLt
  have hp : Value.pt4Of y = 8 * ((y 1).val / 1024) + (y 0).val / 1024 := by
    show 1 * ((y 0).val / 1024 - 0) + 8 * ((y 1).val / 1024 - 0) = _
    omega
  have hN : cfg0.N = 16 := N_0
  have hb : Value.pt4Of y < cfg0.N := by omega
  unfold Value.G4
  rw [dif_pos hb, ← Value.outsAt0_sweep m c (Value.pt4Of y) hb]
  have hl : Value.loc4Of y = ix2 (n0 := 1024) (n1 := 1024) ⟨(y 0).val % 1024, Nat.mod_lt _ (by decide)⟩ ⟨(y 1).val % 1024, Nat.mod_lt _ (by decide)⟩ :=
    Shape.idx_ext₂ rfl rfl
  rw [hl, (outs_at m c _ hb).2]
  refine congrArg (res m c) (Shape.idx_ext₂ ?_ ?_)
  · show Value.pt4Of y % 8 * 1024 + (y 0).val % 1024 = (y 0).val
    omega
  · show Value.pt4Of y / 8 * 1024 + (y 1).val % 1024 = (y 1).val
    omega

/-- The idealized kernel: its result is the reference's term at its own arguments, which are left as they were. -/
theorem run : θ_run defs (onTc (τ := τ) (main (F := Ideal))) ⟨m, fun _ => 0, ρ⟩ fun r => ∀ c : Dev nD,
    r.2.mem ((c.tc : Thread nD τ).loc main_v0) = res m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(h c).1.trans (result_eq m c), (h c).2⟩) (Value.run m ρ)

end Cert.OutprojIdeal.Fold

end
-- ==== Proof.OutprojClaim.lean ====
module

public import proofs.«01_k».proof.Defs
public import proofs.«01_k».proof.Proof.OutprojValue
public import proofs.«01_k».proof.Proof.Gen.Outproj.Frame
public import proofs.«01_k».proof.Proof.Gen.OutprojIdeal.Frame
public import proofs.«01_k».proof.Proof.Gen.OutprojRefIdeal.Run
public import Idealize.ShloMosaic.Lib.Quiescent

/-! The five claims of the output projection. -/

@[expose] public section

noncomputable section

namespace Cert.Proof

open Idealize.ShloMosaic Idealize.ShloMosaic.TcCoe Idealize.SL.Sem

theorem quiescent_outproj : Cert.quiescent_Outproj (hOutproj := Cert.Outproj.Gen.facts) :=
  fun m ρ _ => Cert.Outproj.Gen.frame m ρ

theorem quiescent_outprojIdeal : Cert.quiescent_OutprojIdeal (hOutprojIdeal := Cert.OutprojIdeal.Gen.facts) :=
  fun m ρ _ => Cert.OutprojIdeal.Gen.frame m ρ

theorem quiescent_outprojRef : Cert.quiescent_OutprojRefIdeal (hOutprojRefIdeal := Cert.OutprojRefIdeal.Gen.facts) :=
  fun m ρ _ => (θ_run Cert.OutprojRefIdeal.defs _ _).mono
    (fun r h => ⟨fun c => (h c).2, sem_eq_zero_of_no_sems rfl r.2⟩) (Cert.OutprojRefIdeal.Value.run m ρ)

theorem algebraic_outproj : Cert.algebraic_OutprojIdeal_OutprojRefIdeal
    (hOutprojIdeal := Cert.OutprojIdeal.Gen.facts) (hOutprojRefIdeal := Cert.OutprojRefIdeal.Gen.facts) :=
  fun m ρ m' ρ' _ hag => ⟨fun c => Cert.OutprojIdeal.Fold.res m c, Cert.OutprojIdeal.Fold.run m ρ,
    (θ_run Cert.OutprojRefIdeal.defs _ _).mono
      (fun r h c => ⟨(h c).1.trans (by
          rw [(hag c).1, (hag c).2.1, (hag c).2.2.1, (hag c).2.2.2]
          exact Cert.OutprojRefIdeal.Read.val_main_v4_eq (F := Ideal) _ _ _ _), (h c).2⟩)
      (Cert.OutprojRefIdeal.Value.run m' ρ')⟩

end Cert.Proof

end
-- ==== Proof.S5DiscValue.lean ====
module

public import proofs.«01_k».proof.Proof.Gen.S5DiscIdeal.Value
public import proofs.«01_k».proof.Proof.Gen.S5DiscRefIdeal.Read
public import proofs.«01_k».proof.Proof.RowNorm

/-! The four results of the S5 discretisation: each entry is the reference's. -/

@[expose] public section

set_option maxRecDepth 16384

noncomputable section

namespace Cert.S5DiscIdeal.Whole

open Cert.S5DiscIdeal Cert.S5DiscIdeal.Gen
open Idealize.ShloMosaic Idealize.ShloMosaic.TcCoe Idealize.ShloMosaic.Pointwise
open Idealize.SL.Sem
open Idealize.ShloMosaic.Pipeline (Dat)

variable (m : (ℓ : Loc nD τ sig) → Buf (Elt Ideal) ℓ) (ρ : Dev nD → PrngReg)

/-- The arguments of one device. -/
abbrev aRe (c : Dev nD) : Vec Ideal S64x64 .f32 := m ((c : Thread nD τ).loc main_arg0)
abbrev aIm (c : Dev nD) : Vec Ideal S64x64 .f32 := m ((c : Thread nD τ).loc main_arg1)
abbrev logStep (c : Dev nD) : Vec Ideal S64 .f32 := m ((c : Thread nD τ).loc main_arg2)
abbrev bRe (c : Dev nD) : Vec Ideal S64x64x16 .f32 := m ((c : Thread nD τ).loc main_arg3)
abbrev bIm (c : Dev nD) : Vec Ideal S64x64x16 .f32 := m ((c : Thread nD τ).loc main_arg4)

/-- The reference's four results at this device's arguments. -/
abbrev resLr (c : Dev nD) : Vec Ideal S64x64 .f32 := Cert.S5DiscRefIdeal.Read.val_main_v8 (F := Ideal) (aRe m c) (aIm m c) (logStep m c)
abbrev resLi (c : Dev nD) : Vec Ideal S64x64 .f32 := Cert.S5DiscRefIdeal.Read.val_main_v12 (F := Ideal) (aRe m c) (aIm m c) (logStep m c)
abbrev resBr (c : Dev nD) : Vec Ideal S16x64x64 .f32 :=
  Cert.S5DiscRefIdeal.Read.val_main_v42 (F := Ideal) (aRe m c) (aIm m c) (logStep m c) (bRe m c) (bIm m c)
abbrev resBi (c : Dev nD) : Vec Ideal S16x64x64 .f32 :=
  Cert.S5DiscRefIdeal.Read.val_main_v43 (F := Ideal) (aRe m c) (aIm m c) (logStep m c) (bRe m c) (bIm m c)

/-! ## What the host prepares, and the one block of each array -/

theorem V_v0 (c : Dev nD) : (V m c main_v0 : Vec Ideal S64x1 .f32) = shapeCast S64x1 (logStep m c) shapeCasts_S64_S64x1 := by
  simp only [V, hostOps0]
  after_results
  rfl

theorem V_v1 (c : Dev nD) : (V m c main_v1 : Vec Ideal S16x64x64 .f32) = transpose S16x64x64 [2, 0, 1] (bRe m c) transposes_S64x64x16_S16x64x64_2_0_1 := by
  simp only [V, hostOps0]
  after_results

theorem V_v2 (c : Dev nD) : (V m c main_v2 : Vec Ideal S16x64x64 .f32) = transpose S16x64x64 [2, 0, 1] (bIm m c) transposes_S64x64x16_S16x64x64_2_0_1 := by
  simp only [V, hostOps0]
  after_results

theorem iblk0_eq (c : Dev nD) (t : Fin cfg0.N) : (iblk m c 0 t : Vec Ideal S64x64 .f32) = aRe m c := by
  have hz : ∀ t : Fin cfg0.N, ∀ a, win0_0.index t a = 0 := (by decide +kernel : ∀ t : Fin grid0.N, ∀ a, win0_0.index t a = 0)
  refine Eq.trans ?_ (V_main_arg0 m c)
  funext y
  exact congrArg (V m c main_arg0 : Vec Ideal S64x64 .f32) (funext fun a => Fin.ext (win0_0.rect_emb_val_of_index_zero t a (hz t a) y))

theorem iblk1_eq (c : Dev nD) (t : Fin cfg0.N) : (iblk m c 1 t : Vec Ideal S64x64 .f32) = aIm m c := by
  have hz : ∀ t : Fin cfg0.N, ∀ a, win0_1.index t a = 0 := (by decide +kernel : ∀ t : Fin grid0.N, ∀ a, win0_1.index t a = 0)
  refine Eq.trans ?_ (V_main_arg1 m c)
  funext y
  exact congrArg (V m c main_arg1 : Vec Ideal S64x64 .f32) (funext fun a => Fin.ext (win0_1.rect_emb_val_of_index_zero t a (hz t a) y))

theorem iblk2_eq (c : Dev nD) (t : Fin cfg0.N) : (iblk m c 2 t : Vec Ideal S64x1 .f32) = shapeCast S64x1 (logStep m c) shapeCasts_S64_S64x1 := by
  have hz : ∀ t : Fin cfg0.N, ∀ a, win0_2.index t a = 0 := (by decide +kernel : ∀ t : Fin grid0.N, ∀ a, win0_2.index t a = 0)
  refine Eq.trans ?_ (V_v0 m c)
  funext y
  exact congrArg (V m c main_v0 : Vec Ideal S64x1 .f32) (funext fun a => Fin.ext (win0_2.rect_emb_val_of_index_zero t a (hz t a) y))

theorem iblk3_eq (c : Dev nD) (t : Fin cfg0.N) : (iblk m c 3 t : Vec Ideal S16x64x64 .f32) = transpose S16x64x64 [2, 0, 1] (bRe m c) transposes_S64x64x16_S16x64x64_2_0_1 := by
  have hz : ∀ t : Fin cfg0.N, ∀ a, win0_3.index t a = 0 := (by decide +kernel : ∀ t : Fin grid0.N, ∀ a, win0_3.index t a = 0)
  refine Eq.trans ?_ (V_v1 m c)
  funext y
  exact congrArg (V m c main_v1 : Vec Ideal S16x64x64 .f32) (funext fun a => Fin.ext (win0_3.rect_emb_val_of_index_zero t a (hz t a) y))

theorem iblk4_eq (c : Dev nD) (t : Fin cfg0.N) : (iblk m c 4 t : Vec Ideal S16x64x64 .f32) = transpose S16x64x64 [2, 0, 1] (bIm m c) transposes_S64x64x16_S16x64x64_2_0_1 := by
  have hz : ∀ t : Fin cfg0.N, ∀ a, win0_4.index t a = 0 := (by decide +kernel : ∀ t : Fin grid0.N, ∀ a, win0_4.index t a = 0)
  refine Eq.trans ?_ (V_v2 m c)
  funext y
  exact congrArg (V m c main_v2 : Vec Ideal S16x64x64 .f32) (funext fun a => Fin.ext (win0_4.rect_emb_val_of_index_zero t a (hz t a) y))

/-! ## The payloads, entry by entry -/

theorem idx_ext₃ {n : Fin 3 → ℕ} {x y : (a : Fin 3) → Fin (n a)} (h0 : (x 0 : ℕ) = y 0) (h1 : (x 1 : ℕ) = y 1) (h2 : (x 2 : ℕ) = y 2) : x = y :=
  funext fun a => Fin.ext (by fin_cases a <;> assumption)

theorem z2 : (![0, 0] : Fin 2 → Nat) = fun _ => 0 := funext fun a => by fin_cases a <;> rfl
theorem z3 : (![0, 0, 0] : Fin 3 → Nat) = fun _ => 0 := funext fun a => by fin_cases a <;> rfl

theorem lr_at (c : Dev nD) (g p : Fin 64) :
    k0_pay5 (F := Ideal) (aRe m c) (aIm m c) (shapeCast S64x1 (logStep m c) shapeCasts_S64_S64x1) (ix2 g p) = resLr m c (ix2 g p) := by
  unfold resLr
  pointwise [k0_pay1, k0_pay2, k0_pay3, k0_pay4, k0_pay5, k0_pay6, k0_pay7, k0_pay8, k0_pay9, k0_pay10, k0_pay11, k0_pay12,
    Cert.S5DiscRefIdeal.Read.val_main_v0, Cert.S5DiscRefIdeal.Read.val_main_v1, Cert.S5DiscRefIdeal.Read.val_main_v2, Cert.S5DiscRefIdeal.Read.val_main_v3, Cert.S5DiscRefIdeal.Read.val_main_v4, Cert.S5DiscRefIdeal.Read.val_main_v5, Cert.S5DiscRefIdeal.Read.val_main_v6, Cert.S5DiscRefIdeal.Read.val_main_v7, Cert.S5DiscRefIdeal.Read.val_main_v8, Cert.S5DiscRefIdeal.Read.val_main_v9, Cert.S5DiscRefIdeal.Read.val_main_v10, Cert.S5DiscRefIdeal.Read.val_main_v11, Cert.S5DiscRefIdeal.Read.val_main_v12]

theorem lr_eq (c : Dev nD) : k0_pay5 (F := Ideal) (aRe m c) (aIm m c) (shapeCast S64x1 (logStep m c) shapeCasts_S64_S64x1) = resLr m c := by
  funext y
  have hy : y = ix2 (y 0) (y 1) := Shape.idx_ext₂ rfl rfl
  rw [hy]
  exact lr_at m c (y 0) (y 1)

theorem out5_eq (c : Dev nD) (t : Fin cfg0.N) :
    out0_5 (iblk m c 0 t) (iblk m c 1 t) (iblk m c 2 t) (iblk m c 3 t) (iblk m c 4 t) = resLr m c := by
  unfold out0_5
  rw [View.canon_unit_zero (S := S64x64) z2]
  simp only [View.ld_unit_zero (S := S64x64) z2, View.ld_unit_zero (S := S64x1) z2, View.ld_unit_zero (S := S16x64x64) z3]
  rw [iblk0_eq, iblk1_eq, iblk2_eq]
  exact lr_eq m c

theorem final5 (c : Dev nD) : (dats m 0 c).arrAt 5 cfg0.N = resLr m c := by
  have hz : ∀ t : Fin cfg0.N, ∀ a, win0_5.index t a = 0 := (by decide +kernel : ∀ t : Fin grid0.N, ∀ a, win0_5.index t a = 0)
  have hf : ∀ t : Fin cfg0.N, (cfg0.win 5).flush t = true := (by decide +kernel : ∀ t : Fin grid0.N, win0_5.flush t = true)
  let t0 : Fin cfg0.N := ⟨0, by decide +kernel⟩
  funext y
  have h := congrFun (Value.blocks5 m c t0 (hf t0)) y
  rw [Value.flushed5, out5_eq] at h
  have e : (win0_5.rect t0).emb y = y := funext fun a => Fin.ext (win0_5.rect_emb_val_of_index_zero t0 a (hz t0 a) y)
  exact (congrArg ((dats m 0 c).arrAt 5 cfg0.N) e.symm).trans h

theorem li_at (c : Dev nD) (g p : Fin 64) :
    k0_pay6 (F := Ideal) (aRe m c) (aIm m c) (shapeCast S64x1 (logStep m c) shapeCasts_S64_S64x1) (ix2 g p) = resLi m c (ix2 g p) := by
  unfold resLi
  pointwise [k0_pay1, k0_pay2, k0_pay3, k0_pay4, k0_pay5, k0_pay6, k0_pay7, k0_pay8, k0_pay9, k0_pay10, k0_pay11, k0_pay12,
    Cert.S5DiscRefIdeal.Read.val_main_v0, Cert.S5DiscRefIdeal.Read.val_main_v1, Cert.S5DiscRefIdeal.Read.val_main_v2, Cert.S5DiscRefIdeal.Read.val_main_v3, Cert.S5DiscRefIdeal.Read.val_main_v4, Cert.S5DiscRefIdeal.Read.val_main_v5, Cert.S5DiscRefIdeal.Read.val_main_v6, Cert.S5DiscRefIdeal.Read.val_main_v7, Cert.S5DiscRefIdeal.Read.val_main_v8, Cert.S5DiscRefIdeal.Read.val_main_v9, Cert.S5DiscRefIdeal.Read.val_main_v10, Cert.S5DiscRefIdeal.Read.val_main_v11, Cert.S5DiscRefIdeal.Read.val_main_v12]

theorem li_eq (c : Dev nD) : k0_pay6 (F := Ideal) (aRe m c) (aIm m c) (shapeCast S64x1 (logStep m c) shapeCasts_S64_S64x1) = resLi m c := by
  funext y
  have hy : y = ix2 (y 0) (y 1) := Shape.idx_ext₂ rfl rfl
  rw [hy]
  exact li_at m c (y 0) (y 1)

theorem out6_eq (c : Dev nD) (t : Fin cfg0.N) :
    out0_6 (iblk m c 0 t) (iblk m c 1 t) (iblk m c 2 t) (iblk m c 3 t) (iblk m c 4 t) = resLi m c := by
  unfold out0_6
  rw [View.canon_unit_zero (S := S64x64) z2]
  simp only [View.ld_unit_zero (S := S64x64) z2, View.ld_unit_zero (S := S64x1) z2, View.ld_unit_zero (S := S16x64x64) z3]
  rw [iblk0_eq, iblk1_eq, iblk2_eq]
  exact li_eq m c

theorem final6 (c : Dev nD) : (dats m 0 c).arrAt 6 cfg0.N = resLi m c := by
  have hz : ∀ t : Fin cfg0.N, ∀ a, win0_6.index t a = 0 := (by decide +kernel : ∀ t : Fin grid0.N, ∀ a, win0_6.index t a = 0)
  have hf : ∀ t : Fin cfg0.N, (cfg0.win 6).flush t = true := (by decide +kernel : ∀ t : Fin grid0.N, win0_6.flush t = true)
  let t0 : Fin cfg0.N := ⟨0, by decide +kernel⟩
  funext y
  have h := congrFun (Value.blocks6 m c t0 (hf t0)) y
  rw [Value.flushed6, out6_eq] at h
  have e : (win0_6.rect t0).emb y = y := funext fun a => Fin.ext (win0_6.rect_emb_val_of_index_zero t0 a (hz t0 a) y)
  exact (congrArg ((dats m 0 c).arrAt 6 cfg0.N) e.symm).trans h

theorem br_at (c : Dev nD) (h : Fin 16) (g p : Fin 64) :
    k0_pay1 (F := Ideal) (k0_pay9 (aRe m c) (aIm m c) (shapeCast S64x1 (logStep m c) shapeCasts_S64_S64x1)) (k0_pay11 (transpose S16x64x64 [2, 0, 1] (bIm m c) transposes_S64x64x16_S16x64x64_2_0_1)) (k0_pay12 (aRe m c) (aIm m c) (shapeCast S64x1 (logStep m c) shapeCasts_S64_S64x1) (transpose S16x64x64 [2, 0, 1] (bRe m c) transposes_S64x64x16_S16x64x64_2_0_1)) (ix3 h g p) = resBr m c (ix3 h g p) := by
  unfold resBr
  pointwise [k0_pay1, k0_pay2, k0_pay3, k0_pay4, k0_pay5, k0_pay6, k0_pay7, k0_pay8, k0_pay9, k0_pay10, k0_pay11, k0_pay12,
    Cert.S5DiscRefIdeal.Read.val_main_v0, Cert.S5DiscRefIdeal.Read.val_main_v1, Cert.S5DiscRefIdeal.Read.val_main_v2, Cert.S5DiscRefIdeal.Read.val_main_v3, Cert.S5DiscRefIdeal.Read.val_main_v4, Cert.S5DiscRefIdeal.Read.val_main_v5, Cert.S5DiscRefIdeal.Read.val_main_v6, Cert.S5DiscRefIdeal.Read.val_main_v7, Cert.S5DiscRefIdeal.Read.val_main_v8, Cert.S5DiscRefIdeal.Read.val_main_v9, Cert.S5DiscRefIdeal.Read.val_main_v10, Cert.S5DiscRefIdeal.Read.val_main_v11, Cert.S5DiscRefIdeal.Read.val_main_v12, Cert.S5DiscRefIdeal.Read.val_main_v13, Cert.S5DiscRefIdeal.Read.val_main_v14, Cert.S5DiscRefIdeal.Read.val_main_v15, Cert.S5DiscRefIdeal.Read.val_main_v16, Cert.S5DiscRefIdeal.Read.val_main_v17, Cert.S5DiscRefIdeal.Read.val_main_v18, Cert.S5DiscRefIdeal.Read.val_main_v19, Cert.S5DiscRefIdeal.Read.val_main_v20, Cert.S5DiscRefIdeal.Read.val_main_v21, Cert.S5DiscRefIdeal.Read.val_main_v22, Cert.S5DiscRefIdeal.Read.val_main_v23, Cert.S5DiscRefIdeal.Read.val_main_v24, Cert.S5DiscRefIdeal.Read.val_main_v25, Cert.S5DiscRefIdeal.Read.val_main_v26, Cert.S5DiscRefIdeal.Read.val_main_v27, Cert.S5DiscRefIdeal.Read.val_main_v28, Cert.S5DiscRefIdeal.Read.val_main_v29, Cert.S5DiscRefIdeal.Read.val_main_v30, Cert.S5DiscRefIdeal.Read.val_main_v31, Cert.S5DiscRefIdeal.Read.val_main_v32, Cert.S5DiscRefIdeal.Read.val_main_v33, Cert.S5DiscRefIdeal.Read.val_main_v34, Cert.S5DiscRefIdeal.Read.val_main_v35, Cert.S5DiscRefIdeal.Read.val_main_v36, Cert.S5DiscRefIdeal.Read.val_main_v37, Cert.S5DiscRefIdeal.Read.val_main_v38, Cert.S5DiscRefIdeal.Read.val_main_v39, Cert.S5DiscRefIdeal.Read.val_main_v40, Cert.S5DiscRefIdeal.Read.val_main_v41, Cert.S5DiscRefIdeal.Read.val_main_v42, Cert.S5DiscRefIdeal.Read.val_main_v43, Cert.S5DiscRefIdeal.Read.val_main_cst, Cert.S5DiscRefIdeal.Read.val_main_cst_0]

theorem br_eq (c : Dev nD) : k0_pay1 (F := Ideal) (k0_pay9 (aRe m c) (aIm m c) (shapeCast S64x1 (logStep m c) shapeCasts_S64_S64x1)) (k0_pay11 (transpose S16x64x64 [2, 0, 1] (bIm m c) transposes_S64x64x16_S16x64x64_2_0_1)) (k0_pay12 (aRe m c) (aIm m c) (shapeCast S64x1 (logStep m c) shapeCasts_S64_S64x1) (transpose S16x64x64 [2, 0, 1] (bRe m c) transposes_S64x64x16_S16x64x64_2_0_1)) = resBr m c := by
  funext y
  have hy : y = ix3 (y 0) (y 1) (y 2) := idx_ext₃ rfl rfl rfl
  rw [hy]
  exact br_at m c (y 0) (y 1) (y 2)

theorem out7_eq (c : Dev nD) (t : Fin cfg0.N) :
    out0_7 (iblk m c 0 t) (iblk m c 1 t) (iblk m c 2 t) (iblk m c 3 t) (iblk m c 4 t) = resBr m c := by
  unfold out0_7
  rw [View.canon_unit_zero (S := S16x64x64) z3]
  unfold k0_pay13 k0_pay14
  simp only [View.ld_unit_zero (S := S64x64) z2, View.ld_unit_zero (S := S64x1) z2, View.ld_unit_zero (S := S16x64x64) z3]
  rw [iblk0_eq, iblk1_eq, iblk2_eq, iblk3_eq, iblk4_eq]
  exact br_eq m c

theorem final7 (c : Dev nD) : (dats m 0 c).arrAt 7 cfg0.N = resBr m c := by
  have hz : ∀ t : Fin cfg0.N, ∀ a, win0_7.index t a = 0 := (by decide +kernel : ∀ t : Fin grid0.N, ∀ a, win0_7.index t a = 0)
  have hf : ∀ t : Fin cfg0.N, (cfg0.win 7).flush t = true := (by decide +kernel : ∀ t : Fin grid0.N, win0_7.flush t = true)
  let t0 : Fin cfg0.N := ⟨0, by decide +kernel⟩
  funext y
  have h := congrFun (Value.blocks7 m c t0 (hf t0)) y
  rw [Value.flushed7, out7_eq] at h
  have e : (win0_7.rect t0).emb y = y := funext fun a => Fin.ext (win0_7.rect_emb_val_of_index_zero t0 a (hz t0 a) y)
  exact (congrArg ((dats m 0 c).arrAt 7 cfg0.N) e.symm).trans h

theorem bi_at (c : Dev nD) (h : Fin 16) (g p : Fin 64) :
    k0_pay2 (F := Ideal) (k0_pay8 (aRe m c) (aIm m c) (shapeCast S64x1 (logStep m c) shapeCasts_S64_S64x1)) (k0_pay9 (aRe m c) (aIm m c) (shapeCast S64x1 (logStep m c) shapeCasts_S64_S64x1)) (k0_pay10 (transpose S16x64x64 [2, 0, 1] (bRe m c) transposes_S64x64x16_S16x64x64_2_0_1)) (k0_pay11 (transpose S16x64x64 [2, 0, 1] (bIm m c) transposes_S64x64x16_S16x64x64_2_0_1)) (ix3 h g p) = resBi m c (ix3 h g p) := by
  unfold resBi
  pointwise [k0_pay1, k0_pay2, k0_pay3, k0_pay4, k0_pay5, k0_pay6, k0_pay7, k0_pay8, k0_pay9, k0_pay10, k0_pay11, k0_pay12,
    Cert.S5DiscRefIdeal.Read.val_main_v0, Cert.S5DiscRefIdeal.Read.val_main_v1, Cert.S5DiscRefIdeal.Read.val_main_v2, Cert.S5DiscRefIdeal.Read.val_main_v3, Cert.S5DiscRefIdeal.Read.val_main_v4, Cert.S5DiscRefIdeal.Read.val_main_v5, Cert.S5DiscRefIdeal.Read.val_main_v6, Cert.S5DiscRefIdeal.Read.val_main_v7, Cert.S5DiscRefIdeal.Read.val_main_v8, Cert.S5DiscRefIdeal.Read.val_main_v9, Cert.S5DiscRefIdeal.Read.val_main_v10, Cert.S5DiscRefIdeal.Read.val_main_v11, Cert.S5DiscRefIdeal.Read.val_main_v12, Cert.S5DiscRefIdeal.Read.val_main_v13, Cert.S5DiscRefIdeal.Read.val_main_v14, Cert.S5DiscRefIdeal.Read.val_main_v15, Cert.S5DiscRefIdeal.Read.val_main_v16, Cert.S5DiscRefIdeal.Read.val_main_v17, Cert.S5DiscRefIdeal.Read.val_main_v18, Cert.S5DiscRefIdeal.Read.val_main_v19, Cert.S5DiscRefIdeal.Read.val_main_v20, Cert.S5DiscRefIdeal.Read.val_main_v21, Cert.S5DiscRefIdeal.Read.val_main_v22, Cert.S5DiscRefIdeal.Read.val_main_v23, Cert.S5DiscRefIdeal.Read.val_main_v24, Cert.S5DiscRefIdeal.Read.val_main_v25, Cert.S5DiscRefIdeal.Read.val_main_v26, Cert.S5DiscRefIdeal.Read.val_main_v27, Cert.S5DiscRefIdeal.Read.val_main_v28, Cert.S5DiscRefIdeal.Read.val_main_v29, Cert.S5DiscRefIdeal.Read.val_main_v30, Cert.S5DiscRefIdeal.Read.val_main_v31, Cert.S5DiscRefIdeal.Read.val_main_v32, Cert.S5DiscRefIdeal.Read.val_main_v33, Cert.S5DiscRefIdeal.Read.val_main_v34, Cert.S5DiscRefIdeal.Read.val_main_v35, Cert.S5DiscRefIdeal.Read.val_main_v36, Cert.S5DiscRefIdeal.Read.val_main_v37, Cert.S5DiscRefIdeal.Read.val_main_v38, Cert.S5DiscRefIdeal.Read.val_main_v39, Cert.S5DiscRefIdeal.Read.val_main_v40, Cert.S5DiscRefIdeal.Read.val_main_v41, Cert.S5DiscRefIdeal.Read.val_main_v42, Cert.S5DiscRefIdeal.Read.val_main_v43, Cert.S5DiscRefIdeal.Read.val_main_cst, Cert.S5DiscRefIdeal.Read.val_main_cst_0]

theorem bi_eq (c : Dev nD) : k0_pay2 (F := Ideal) (k0_pay8 (aRe m c) (aIm m c) (shapeCast S64x1 (logStep m c) shapeCasts_S64_S64x1)) (k0_pay9 (aRe m c) (aIm m c) (shapeCast S64x1 (logStep m c) shapeCasts_S64_S64x1)) (k0_pay10 (transpose S16x64x64 [2, 0, 1] (bRe m c) transposes_S64x64x16_S16x64x64_2_0_1)) (k0_pay11 (transpose S16x64x64 [2, 0, 1] (bIm m c) transposes_S64x64x16_S16x64x64_2_0_1)) = resBi m c := by
  funext y
  have hy : y = ix3 (y 0) (y 1) (y 2) := idx_ext₃ rfl rfl rfl
  rw [hy]
  exact bi_at m c (y 0) (y 1) (y 2)

theorem out8_eq (c : Dev nD) (t : Fin cfg0.N) :
    out0_8 (iblk m c 0 t) (iblk m c 1 t) (iblk m c 2 t) (iblk m c 3 t) (iblk m c 4 t) = resBi m c := by
  unfold out0_8
  rw [View.canon_unit_zero (S := S16x64x64) z3]
  unfold k0_pay13 k0_pay14
  simp only [View.ld_unit_zero (S := S64x64) z2, View.ld_unit_zero (S := S64x1) z2, View.ld_unit_zero (S := S16x64x64) z3]
  rw [iblk0_eq, iblk1_eq, iblk2_eq, iblk3_eq, iblk4_eq]
  exact bi_eq m c

theorem final8 (c : Dev nD) : (dats m 0 c).arrAt 8 cfg0.N = resBi m c := by
  have hz : ∀ t : Fin cfg0.N, ∀ a, win0_8.index t a = 0 := (by decide +kernel : ∀ t : Fin grid0.N, ∀ a, win0_8.index t a = 0)
  have hf : ∀ t : Fin cfg0.N, (cfg0.win 8).flush t = true := (by decide +kernel : ∀ t : Fin grid0.N, win0_8.flush t = true)
  let t0 : Fin cfg0.N := ⟨0, by decide +kernel⟩
  funext y
  have h := congrFun (Value.blocks8 m c t0 (hf t0)) y
  rw [Value.flushed8, out8_eq] at h
  have e : (win0_8.rect t0).emb y = y := funext fun a => Fin.ext (win0_8.rect_emb_val_of_index_zero t0 a (hz t0 a) y)
  exact (congrArg ((dats m 0 c).arrAt 8 cfg0.N) e.symm).trans h

/-- The idealized kernel: its results are the reference's terms at its own arguments, which are left as they were. -/
theorem run : θ_run defs (onTc (τ := τ) (main (F := Ideal))) ⟨m, fun _ => 0, ρ⟩ fun r => ∀ c : Dev nD,
    r.2.mem ((c.tc : Thread nD τ).loc main_v3_0) = resLr m c
    ∧ r.2.mem ((c.tc : Thread nD τ).loc main_v3_1) = resLi m c
    ∧ r.2.mem ((c.tc : Thread nD τ).loc main_v3_2) = resBr m c
    ∧ r.2.mem ((c.tc : Thread nD τ).loc main_v3_3) = resBi m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨(h c).1.trans (final5 m c), (h c).2.1.trans (final6 m c), (h c).2.2.1.trans (final7 m c),
    (h c).2.2.2.1.trans (final8 m c), (h c).2.2.2.2⟩) (Value.run_blocks m ρ)

end Cert.S5DiscIdeal.Whole

end
-- ==== Proof.S5DiscClaim.lean ====
module

public import proofs.«01_k».proof.Defs
public import proofs.«01_k».proof.Proof.S5DiscValue
public import proofs.«01_k».proof.Proof.Gen.S5Disc.Frame
public import proofs.«01_k».proof.Proof.Gen.S5DiscIdeal.Frame
public import proofs.«01_k».proof.Proof.Gen.S5DiscRefIdeal.Run
public import Idealize.ShloMosaic.Lib.Quiescent

/-! The five claims of the S5 discretisation. -/

@[expose] public section

noncomputable section

namespace Cert.Proof

open Idealize.ShloMosaic Idealize.ShloMosaic.TcCoe Idealize.SL.Sem

theorem quiescent_s5disc : Cert.quiescent_S5Disc (hS5Disc := Cert.S5Disc.Gen.facts) :=
  fun m ρ _ => Cert.S5Disc.Gen.frame m ρ

theorem quiescent_s5discIdeal : Cert.quiescent_S5DiscIdeal (hS5DiscIdeal := Cert.S5DiscIdeal.Gen.facts) :=
  fun m ρ _ => Cert.S5DiscIdeal.Gen.frame m ρ

theorem quiescent_s5discRef : Cert.quiescent_S5DiscRefIdeal (hS5DiscRefIdeal := Cert.S5DiscRefIdeal.Gen.facts) :=
  fun m ρ _ => (θ_run Cert.S5DiscRefIdeal.defs _ _).mono
    (fun r h => ⟨fun c => (h c).2.2.2.2, sem_eq_zero_of_no_sems rfl r.2⟩) (Cert.S5DiscRefIdeal.Value.run m ρ)

theorem algebraic_s5disc : Cert.algebraic_S5DiscIdeal_S5DiscRefIdeal
    (hS5DiscIdeal := Cert.S5DiscIdeal.Gen.facts) (hS5DiscRefIdeal := Cert.S5DiscRefIdeal.Gen.facts) :=
  fun m ρ m' ρ' _ hag => ⟨fun c => Cert.S5DiscIdeal.Whole.resLr m c, fun c => Cert.S5DiscIdeal.Whole.resLi m c,
    fun c => Cert.S5DiscIdeal.Whole.resBr m c, fun c => Cert.S5DiscIdeal.Whole.resBi m c, Cert.S5DiscIdeal.Whole.run m ρ,
    (θ_run Cert.S5DiscRefIdeal.defs _ _).mono
      (fun r h c => ⟨(h c).1.trans (by
          rw [(hag c).1, (hag c).2.1, (hag c).2.2.1]
          exact Cert.S5DiscRefIdeal.Read.val_main_v8_eq (F := Ideal) _ _ _),
        (h c).2.1.trans (by
          rw [(hag c).1, (hag c).2.1, (hag c).2.2.1]
          exact Cert.S5DiscRefIdeal.Read.val_main_v12_eq (F := Ideal) _ _ _),
        (h c).2.2.1.trans (by
          rw [(hag c).1, (hag c).2.1, (hag c).2.2.1, (hag c).2.2.2.1, (hag c).2.2.2.2]
          exact Cert.S5DiscRefIdeal.Read.val_main_v42_eq (F := Ideal) _ _ _ _ _),
        (h c).2.2.2.1.trans (by
          rw [(hag c).1, (hag c).2.1, (hag c).2.2.1, (hag c).2.2.2.1, (hag c).2.2.2.2]
          exact Cert.S5DiscRefIdeal.Read.val_main_v43_eq (F := Ideal) _ _ _ _ _),
        (h c).2.2.2.2⟩)
      (Cert.S5DiscRefIdeal.Value.run m' ρ')⟩

end Cert.Proof

end
-- ==== Proof.lean ====
module

public import proofs.«01_k».proof.Defs
public import proofs.«01_k».proof.Proof.Gen.OddInproj
public import proofs.«01_k».proof.Proof.Gen.OddInproj.Skeleton
public import proofs.«01_k».proof.Proof.Gen.OddInproj.Launch
public import proofs.«01_k».proof.Proof.Gen.OddInproj.Points
public import proofs.«01_k».proof.Proof.Gen.OddInproj.Frame
public import proofs.«01_k».proof.Proof.Gen.OddInprojIdeal
public import proofs.«01_k».proof.Proof.Gen.OddInprojIdeal.Skeleton
public import proofs.«01_k».proof.Proof.Gen.OddInprojIdeal.Launch
public import proofs.«01_k».proof.Proof.Gen.OddInprojIdeal.Points
public import proofs.«01_k».proof.Proof.Gen.OddInprojIdeal.Frame
public import proofs.«01_k».proof.Proof.Gen.OddInprojRefIdeal
public import proofs.«01_k».proof.Proof.Gen.FfnLast
public import proofs.«01_k».proof.Proof.Gen.FfnLast.Skeleton
public import proofs.«01_k».proof.Proof.Gen.FfnLast.Launch
public import proofs.«01_k».proof.Proof.Gen.FfnLast.Points
public import proofs.«01_k».proof.Proof.Gen.FfnLast.Frame
public import proofs.«01_k».proof.Proof.Gen.FfnLastIdeal
public import proofs.«01_k».proof.Proof.Gen.FfnLastIdeal.Skeleton
public import proofs.«01_k».proof.Proof.Gen.FfnLastIdeal.Launch
public import proofs.«01_k».proof.Proof.Gen.FfnLastIdeal.Points
public import proofs.«01_k».proof.Proof.Gen.FfnLastIdeal.Frame
public import proofs.«01_k».proof.Proof.Gen.FfnLastRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnLastIdeal.Value
public import proofs.«01_k».proof.Proof.Gen.FfnIdeal.Value
public import proofs.«01_k».proof.Proof.Gen.OddInprojRefIdeal.Read
public import proofs.«01_k».proof.Proof.Gen.FfnLastRefIdeal.Read
public import proofs.«01_k».proof.Proof.Gen.FfnRefIdeal.Read
public import proofs.«01_k».proof.Proof.Gen.OddInprojRefIdeal.Run
public import proofs.«01_k».proof.Proof.Gen.FfnLastRefIdeal.Run
public import proofs.«01_k».proof.Proof.Gen.FfnRefIdeal.Run
public import proofs.«01_k».proof.Proof.Gen.EvenInproj
public import proofs.«01_k».proof.Proof.Gen.EvenInproj.Skeleton
public import proofs.«01_k».proof.Proof.Gen.EvenInproj.Launch
public import proofs.«01_k».proof.Proof.Gen.EvenInproj.Points
public import proofs.«01_k».proof.Proof.Gen.EvenInproj.Frame
public import proofs.«01_k».proof.Proof.Gen.EvenInprojIdeal
public import proofs.«01_k».proof.Proof.Gen.EvenInprojIdeal.Skeleton
public import proofs.«01_k».proof.Proof.Gen.EvenInprojIdeal.Launch
public import proofs.«01_k».proof.Proof.Gen.EvenInprojIdeal.Points
public import proofs.«01_k».proof.Proof.Gen.EvenInprojIdeal.Frame
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.EvenInprojRefIdeal
public import proofs.«01_k».proof.Proof.Gen.EvenInprojRefIdeal.Read
public import proofs.«01_k».proof.Proof.Gen.EvenInprojRefIdeal.Run
public import proofs.«01_k».proof.Proof.Gen.OutprojRefIdeal
public import proofs.«01_k».proof.Proof.Gen.OutprojRefIdeal.Read
public import proofs.«01_k».proof.Proof.Gen.OutprojRefIdeal.Run
public import proofs.«01_k».proof.Proof.Gen.OutprojIdeal.Value
public import proofs.«01_k».proof.Proof.Gen.S5Disc
public import proofs.«01_k».proof.Proof.Gen.S5Disc.Skeleton
public import proofs.«01_k».proof.Proof.Gen.S5Disc.Launch
public import proofs.«01_k».proof.Proof.Gen.S5Disc.Points
public import proofs.«01_k».proof.Proof.Gen.S5Disc.Frame
public import proofs.«01_k».proof.Proof.Gen.S5DiscIdeal
public import proofs.«01_k».proof.Proof.Gen.S5DiscIdeal.Skeleton
public import proofs.«01_k».proof.Proof.Gen.S5DiscIdeal.Launch
public import proofs.«01_k».proof.Proof.Gen.S5DiscIdeal.Points
public import proofs.«01_k».proof.Proof.Gen.S5DiscIdeal.Frame
public import proofs.«01_k».proof.Proof.Gen.S5DiscIdeal.Value
public import proofs.«01_k».proof.Proof.Gen.S5DiscRefIdeal
public import proofs.«01_k».proof.Proof.Gen.S5DiscRefIdeal.Read
public import proofs.«01_k».proof.Proof.Gen.S5DiscRefIdeal.Run
public import proofs.«01_k».proof.Proof.InprojClaim
public import proofs.«01_k».proof.Proof.FfnClaim
public import proofs.«01_k».proof.Proof.EvenClaim
public import proofs.«01_k».proof.Proof.OutprojClaim
public import proofs.«01_k».proof.Proof.S5DiscClaim
public import Idealize.ShloMosaic.Adequacy
public import Idealize.ShloMosaic.Init

@[expose] public section

noncomputable section

namespace Cert.Proof

open Idealize.ShloMosaic Idealize.SL.Sem Cert.OddInproj

theorem claim : Cert.Claim := ⟨Cert.OddInproj.Gen.facts, Cert.OddInprojIdeal.Gen.facts, Cert.OddInprojRefIdeal.Gen.facts, Cert.FfnLast.Gen.facts, Cert.FfnLastIdeal.Gen.facts, Cert.FfnLastRefIdeal.Gen.facts, Cert.Ffn.Gen.facts, Cert.FfnIdeal.Gen.facts, Cert.FfnRefIdeal.Gen.facts, Cert.EvenInproj.Gen.facts, Cert.EvenInprojIdeal.Gen.facts, Cert.EvenInprojRefIdeal.Gen.facts, Cert.Outproj.Gen.facts, Cert.OutprojIdeal.Gen.facts, Cert.OutprojRefIdeal.Gen.facts, Cert.S5Disc.Gen.facts, Cert.S5DiscIdeal.Gen.facts, Cert.S5DiscRefIdeal.Gen.facts,
  quiescent_inproj, quiescent_inprojIdeal, quiescent_inprojRef, quiescent_ffnLast, quiescent_ffnLastIdeal, quiescent_ffnLastRef, quiescent_ffn, quiescent_ffnIdeal, quiescent_ffnRef,
  quiescent_even, quiescent_evenIdeal, quiescent_evenRef, quiescent_outproj, quiescent_outprojIdeal, quiescent_outprojRef,
  quiescent_s5disc, quiescent_s5discIdeal, quiescent_s5discRef,
  trivial, algebraic_inproj, trivial, algebraic_ffnLast, trivial, algebraic_ffn, trivial, algebraic_even, trivial, algebraic_outproj,
  trivial, algebraic_s5disc⟩

end Cert.Proof

end
